-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_three_nearest [hPre_three_nearest : Cert.Pre_three_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_three_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_three_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_three_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_three_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_three_nearest [hPre_three_nearest : Cert.Pre_three_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_three_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_three_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_three_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_three_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_three_nearest [hKernelIdeal : Cert.KernelIdeal.Facts] [hPre_three_nearest : Cert.Pre_three_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_three_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_three_nearest [hReferenceIdeal : Cert.ReferenceIdeal.Facts] [hPre_three_nearest : Cert.Pre_three_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_three_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_three_nearest [hKernelIdeal : Cert.KernelIdeal.Facts] [hReferenceIdeal : Cert.ReferenceIdeal.Facts] [hPre_three_nearest : Cert.Pre_three_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_three_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_three_nearest : Cert.Pre_three_nearest.Facts),
    quiescent_Kernel (hKernel := hKernel)
    ∧ quiescent_KernelIdeal (hKernelIdeal := hKernelIdeal)
    ∧ quiescent_KernelIdeal_pre_three_nearest (hKernelIdeal := hKernelIdeal) (hPre_three_nearest := hPre_three_nearest)
    ∧ quiescent_ReferenceIdeal (hReferenceIdeal := hReferenceIdeal)
    ∧ quiescent_ReferenceIdeal_pre_three_nearest (hReferenceIdeal := hReferenceIdeal) (hPre_three_nearest := hPre_three_nearest)
    ∧ preserves_Kernel_KernelIdeal
    ∧ algebraic_KernelIdeal_ReferenceIdeal_pre_three_nearest (hKernelIdeal := hKernelIdeal) (hReferenceIdeal := hReferenceIdeal) (hPre_three_nearest := hPre_three_nearest)
-- ==== Pre_three_nearest.lean ====
abbrev S2x1x2048x1x32 : Shape := ⟨5, ![2, 1, 2048, 1, 32]⟩
abbrev S2x1x2048x1x2 : Shape := ⟨5, ![2, 1, 2048, 1, 2]⟩
abbrev S2x1x2048x1 : Shape := ⟨4, ![2, 1, 2048, 1]⟩
abbrev S2x2048 : Shape := ⟨2, ![2, 2048]⟩
abbrev S2x2048x2 : Shape := ⟨3, ![2, 2048, 2]⟩
abbrev S2x2048x1 : Shape := ⟨3, ![2, 2048, 1]⟩
abbrev S2x1x2048 : Shape := ⟨3, ![2, 1, 2048]⟩
abbrev S2x2048x2048 : Shape := ⟨3, ![2, 2048, 2048]⟩
abbrev S_ : Shape := ⟨0, ![]⟩
abbrev S2x2048x4 : Shape := ⟨3, ![2, 2048, 4]⟩
abbrev S2x2048x32 : Shape := ⟨3, ![2, 2048, 32]⟩

class Facts : Prop where
  shapeCasts_S2x1x2048x1_S2x2048 : S2x1x2048x1.ShapeCasts S2x2048
  shapeCasts_S2x1x2048x1x2_S2x2048x2 : S2x1x2048x1x2.ShapeCasts S2x2048x2
  slices_S2x2048x2_S2x2048x1_0_0_0 : S2x2048x2.Slices ![0, 0, 0] S2x2048x1
  shapeCasts_S2x2048x1_S2x2048 : S2x2048x1.ShapeCasts S2x2048
  bcast_S2x2048_S2x2048x1_0_1 : S2x2048.BroadcastsInDim S2x2048x1 (![0, 1] : Fin 2 → Fin S2x2048x1.rank)
  slices_S2x2048x2_S2x2048x1_0_0_1 : S2x2048x2.Slices ![0, 0, 1] S2x2048x1
  bcast_S2x2048_S2x1x2048_0_2 : S2x2048.BroadcastsInDim S2x1x2048 (![0, 2] : Fin 2 → Fin S2x1x2048.rank)
  bcast_S2x1x2048_S2x2048x2048_0_1_2 : S2x1x2048.BroadcastsInDim S2x2048x2048 (![0, 1, 2] : Fin 3 → Fin S2x2048x2048.rank)
  bcast_S2x2048x1_S2x2048x2048_0_1_2 : S2x2048x1.BroadcastsInDim S2x2048x2048 (![0, 1, 2] : Fin 3 → Fin S2x2048x2048.rank)
  bcast_S_S2x2048x2048 : S_.BroadcastsInDim S2x2048x2048 (![] : Fin 0 → Fin S2x2048x2048.rank)
  sliceFits_S2x2048x2048_S2x2048x4 : S2x2048x2048.Slices (fun _ => 0) S2x2048x4
  shapeCasts_S2x1x2048x1x32_S2x2048x32 : S2x1x2048x1x32.ShapeCasts S2x2048x32
  bcast_S_S2x2048x32 : S_.BroadcastsInDim S2x2048x32 (![] : Fin 0 → Fin S2x2048x32.rank)
  bcast_S2x2048x1_S2x2048x32_0_1_2 : S2x2048x1.BroadcastsInDim S2x2048x32 (![0, 1, 2] : Fin 3 → Fin S2x2048x32.rank)
  bcast_S_S2x2048x2 : S_.BroadcastsInDim S2x2048x2 (![] : Fin 0 → Fin S2x2048x2.rank)
  bcast_S2x2048x1_S2x2048x2_0_1_2 : S2x2048x1.BroadcastsInDim S2x2048x2 (![0, 1, 2] : Fin 3 → Fin S2x2048x2.rank)
  slices_S2x2048x4_S2x2048x1_0_0_2 : S2x2048x4.Slices ![0, 0, 2] S2x2048x1
  slices_S2x2048x4_S2x2048x1_0_0_3 : S2x2048x4.Slices ![0, 0, 3] S2x2048x1

variable [Facts]

def fn_clip {F : FTy → Type} [FloatOps F] (arg0 : FVec F S2x2048x2048 .f32) (arg1 : FVec F S_ .f32) (arg2 : FVec F S_ .f32) : FVec F S2x2048x2048 .f32 :=
  let v0 : FVec F S_ .f32 := id arg1
  let v1 : FVec F S2x2048x2048 .f32 := broadcastInDim S2x2048x2048 ![] bcast_S_S2x2048x2048 v0
  let v2 : FVec F S2x2048x2048 .f32 := maximumf v1 arg0
  let v3 : FVec F S_ .f32 := id arg2
  let v4 : FVec F S2x2048x2048 .f32 := broadcastInDim S2x2048x2048 ![] bcast_S_S2x2048x2048 v3
  let v5 : FVec F S2x2048x2048 .f32 := minimumf v4 v2
  v5

def fn_where {F : FTy → Type} [FloatOps F] (arg0 : IVec S2x1x2048 1) (arg1 : FVec F S2x2048x2048 .f32) (arg2 : FVec F S_ .f32) : FVec F S2x2048x2048 .f32 :=
  let v0 : FVec F S_ .f32 := id arg2
  let v1 : IVec S2x2048x2048 1 := broadcastInDim S2x2048x2048 ![0, 1, 2] bcast_S2x1x2048_S2x2048x2048_0_1_2 arg0
  let v2 : FVec F S2x2048x2048 .f32 := broadcastInDim S2x2048x2048 ![] bcast_S_S2x2048x2048 v0
  let v3 : FVec F S2x2048x2048 .f32 := select v1 arg1 v2
  v3

def fn_part3 {F : FTy → Type} [FloatOps F] (main_values : FVec F S2x2048x4 .f32) (main_v51 : IVec S2x2048x32 1) (main_v56 : IVec S2x2048x2 1) (main_v59 : IVec S2x2048x2 1) (main_v60 : FVec F S2x2048x1 .f32) : IVec S2x2048x32 1 × IVec S2x2048x2 1 × IVec S2x2048x2 1 × IVec S2x2048 1 :=
  let main_v61 : FVec F S2x2048 .f32 := shapeCast S2x2048 main_v60 shapeCasts_S2x2048x1_S2x2048
  let main_v62 : FVec F S2x2048x1 .f32 := (extractStridedSlice S2x2048x1 ![0, 0, 3] · slices_S2x2048x4_S2x2048x1_0_0_3) main_values
  let main_v63 : FVec F S2x2048 .f32 := shapeCast S2x2048 main_v62 shapeCasts_S2x2048x1_S2x2048
  let main_v64 : IVec S2x2048 1 := cmpf .ogt main_v61 main_v63
  (main_v51, main_v56, main_v59, main_v64)

def fn_part2 {F : FTy → Type} [FloatOps F] (main_arg0 : FVec F S2x1x2048x1x32 .f32) (main_v0 : IVec S2x2048 1) (main_v1 : FVec F S2x2048x2 .f32) (main_v2 : FVec F S2x2048x2 .f32) (main_v40 : FVec F S2x2048x2048 .f32) (main_v41 : IVec S2x1x2048 1) (main_cst_4 : FVec F S_ .f32) : IVec S2x2048x32 1 × IVec S2x2048x2 1 × IVec S2x2048x2 1 × IVec S2x2048 1 :=
  let main_v42 : FVec F S2x2048x2048 .f32 := fn_where (F := F) main_v41 main_v40 main_cst_4
  let main_v43 : FVec F S2x2048x2048 .f32 := Host.negf main_v42
  let main_values : FVec F S2x2048x4 .f32 := (fun x => (Host.topK S2x2048x4 2 (FloatOps.cmpfTotal .gt) x sliceFits_S2x2048x2048_S2x2048x4).1) main_v43
  let main_indices : IVec S2x2048x4 32 := (fun x => (Host.topK S2x2048x4 2 (FloatOps.cmpfTotal .gt) x sliceFits_S2x2048x2048_S2x2048x4).2) main_v43
  let main_v44 : IVec S2x2048x1 1 := broadcastInDim S2x2048x1 ![0, 1] bcast_S2x2048_S2x2048x1_0_1 main_v0
  let main_v45 : IVec S2x2048x1 1 := noti main_v44
  let main_v46 : FVec F S2x2048x32 .f32 := shapeCast S2x2048x32 main_arg0 shapeCasts_S2x1x2048x1x32_S2x2048x32
  let main_v47 : FVec F S2x2048x32 .f32 := Host.absf main_v46
  let main_cst_5 : FVec F S_ .f32 := constant S_ .f32 0x7F800000#32
  let main_v48 : FVec F S2x2048x32 .f32 := broadcastInDim S2x2048x32 ![] bcast_S_S2x2048x32 main_cst_5
  let main_v49 : IVec S2x2048x32 1 := cmpf .olt main_v47 main_v48
  let main_v50 : IVec S2x2048x32 1 := broadcastInDim S2x2048x32 ![0, 1, 2] bcast_S2x2048x1_S2x2048x32_0_1_2 main_v45
  let main_v51 : IVec S2x2048x32 1 := ori main_v50 main_v49
  let main_v52 : FVec F S2x2048x2 .f32 := Host.absf main_v1
  let main_cst_6 : FVec F S_ .f32 := constant S_ .f32 0x7F800000#32
  let main_v53 : FVec F S2x2048x2 .f32 := broadcastInDim S2x2048x2 ![] bcast_S_S2x2048x2 main_cst_6
  let main_v54 : IVec S2x2048x2 1 := cmpf .olt main_v52 main_v53
  let main_v55 : IVec S2x2048x2 1 := broadcastInDim S2x2048x2 ![0, 1, 2] bcast_S2x2048x1_S2x2048x2_0_1_2 main_v45
  let main_v56 : IVec S2x2048x2 1 := ori main_v55 main_v54
  let main_v57 : FVec F S2x2048x2 .f32 := Host.absf main_v2
  let main_cst_7 : FVec F S_ .f32 := constant S_ .f32 0x7F800000#32
  let main_v58 : FVec F S2x2048x2 .f32 := broadcastInDim S2x2048x2 ![] bcast_S_S2x2048x2 main_cst_7
  let main_v59 : IVec S2x2048x2 1 := cmpf .olt main_v57 main_v58
  let main_v60 : FVec F S2x2048x1 .f32 := (extractStridedSlice S2x2048x1 ![0, 0, 2] · slices_S2x2048x4_S2x2048x1_0_0_2) main_values
  fn_part3 (F := F) main_values main_v51 main_v56 main_v59 main_v60

def fn_part1 {F : FTy → Type} [FloatOps F] (main_arg0 : FVec F S2x1x2048x1x32 .f32) (main_v0 : IVec S2x2048 1) (main_v1 : FVec F S2x2048x2 .f32) (main_v2 : FVec F S2x2048x2 .f32) (main_v5 : FVec F S2x2048x1 .f32) (main_v11 : FVec F S2x1x2048 .f32) (main_v20 : FVec F S2x2048x2048 .f32) (main_v22 : FVec F S2x2048x2048 .f32) : IVec S2x2048x32 1 × IVec S2x2048x2 1 × IVec S2x2048x2 1 × IVec S2x2048 1 :=
  let main_v23 : FVec F S2x2048x2048 .f32 := Host.sin main_v22
  let main_v24 : FVec F S2x2048x2048 .f32 := mulf main_v23 main_v23
  let main_v25 : FVec F S2x2048x1 .f32 := Host.cos main_v5
  let main_v26 : FVec F S2x1x2048 .f32 := Host.cos main_v11
  let main_v27 : FVec F S2x2048x2048 .f32 := broadcastInDim S2x2048x2048 ![0, 1, 2] bcast_S2x2048x1_S2x2048x2048_0_1_2 main_v25
  let main_v28 : FVec F S2x2048x2048 .f32 := broadcastInDim S2x2048x2048 ![0, 1, 2] bcast_S2x1x2048_S2x2048x2048_0_1_2 main_v26
  let main_v29 : FVec F S2x2048x2048 .f32 := mulf main_v27 main_v28
  let main_cst_0 : FVec F S_ .f32 := constant S_ .f32 0x40000000#32
  let main_v30 : FVec F S2x2048x2048 .f32 := broadcastInDim S2x2048x2048 ![] bcast_S_S2x2048x2048 main_cst_0
  let main_v31 : FVec F S2x2048x2048 .f32 := Host.divf main_v20 main_v30
  let main_v32 : FVec F S2x2048x2048 .f32 := Host.sin main_v31
  let main_v33 : FVec F S2x2048x2048 .f32 := mulf main_v32 main_v32
  let main_v34 : FVec F S2x2048x2048 .f32 := mulf main_v29 main_v33
  let main_v35 : FVec F S2x2048x2048 .f32 := addf main_v24 main_v34
  let main_cst_1 : FVec F S_ .f32 := constant S_ .f32 0x00000000#32
  let main_cst_2 : FVec F S_ .f32 := constant S_ .f32 0x3F800000#32
  let main_v36 : FVec F S2x2048x2048 .f32 := fn_clip (F := F) main_v35 main_cst_1 main_cst_2
  let main_v37 : FVec F S2x2048x2048 .f32 := Host.sqrt main_v36
  let main_v38 : FVec F S2x2048x2048 .f32 := Host.asin main_v37
  let main_cst_3 : FVec F S_ .f32 := constant S_ .f32 0x40000000#32
  let main_v39 : FVec F S2x2048x2048 .f32 := broadcastInDim S2x2048x2048 ![] bcast_S_S2x2048x2048 main_cst_3
  let main_v40 : FVec F S2x2048x2048 .f32 := mulf main_v39 main_v38
  let main_v41 : IVec S2x1x2048 1 := broadcastInDim S2x1x2048 ![0, 2] bcast_S2x2048_S2x1x2048_0_2 main_v0
  let main_cst_4 : FVec F S_ .f32 := constant S_ .f32 0x4E6E6B28#32
  fn_part2 (F := F) main_arg0 main_v0 main_v1 main_v2 main_v40 main_v41 main_cst_4

def fn {F : FTy → Type} [FloatOps F] (main_arg0 : FVec F S2x1x2048x1x32 .f32) (main_arg1 : FVec F S2x1x2048x1x2 .f32) (main_arg2 : FVec F S2x1x2048x1x2 .f32) (main_arg3 : IVec S2x1x2048x1 1) : IVec S2x2048x32 1 × IVec S2x2048x2 1 × IVec S2x2048x2 1 × IVec S2x2048 1 :=
  let main_v0 : IVec S2x2048 1 := shapeCast S2x2048 main_arg3 shapeCasts_S2x1x2048x1_S2x2048
  let main_v1 : FVec F S2x2048x2 .f32 := shapeCast S2x2048x2 main_arg1 shapeCasts_S2x1x2048x1x2_S2x2048x2
  let main_v2 : FVec F S2x2048x2 .f32 := shapeCast S2x2048x2 main_arg2 shapeCasts_S2x1x2048x1x2_S2x2048x2
  let main_v3 : FVec F S2x2048x1 .f32 := (extractStridedSlice S2x2048x1 ![0, 0, 0] · slices_S2x2048x2_S2x2048x1_0_0_0) main_v2
  let main_v4 : FVec F S2x2048 .f32 := shapeCast S2x2048 main_v3 shapeCasts_S2x2048x1_S2x2048
  let main_v5 : FVec F S2x2048x1 .f32 := broadcastInDim S2x2048x1 ![0, 1] bcast_S2x2048_S2x2048x1_0_1 main_v4
  let main_v6 : FVec F S2x2048x1 .f32 := (extractStridedSlice S2x2048x1 ![0, 0, 1] · slices_S2x2048x2_S2x2048x1_0_0_1) main_v2
  let main_v7 : FVec F S2x2048 .f32 := shapeCast S2x2048 main_v6 shapeCasts_S2x2048x1_S2x2048
  let main_v8 : FVec F S2x2048x1 .f32 := broadcastInDim S2x2048x1 ![0, 1] bcast_S2x2048_S2x2048x1_0_1 main_v7
  let main_v9 : FVec F S2x2048x1 .f32 := (extractStridedSlice S2x2048x1 ![0, 0, 0] · slices_S2x2048x2_S2x2048x1_0_0_0) main_v1
  let main_v10 : FVec F S2x2048 .f32 := shapeCast S2x2048 main_v9 shapeCasts_S2x2048x1_S2x2048
  let main_v11 : FVec F S2x1x2048 .f32 := broadcastInDim S2x1x2048 ![0, 2] bcast_S2x2048_S2x1x2048_0_2 main_v10
  let main_v12 : FVec F S2x2048x1 .f32 := (extractStridedSlice S2x2048x1 ![0, 0, 1] · slices_S2x2048x2_S2x2048x1_0_0_1) main_v1
  let main_v13 : FVec F S2x2048 .f32 := shapeCast S2x2048 main_v12 shapeCasts_S2x2048x1_S2x2048
  let main_v14 : FVec F S2x1x2048 .f32 := broadcastInDim S2x1x2048 ![0, 2] bcast_S2x2048_S2x1x2048_0_2 main_v13
  let main_v15 : FVec F S2x2048x2048 .f32 := broadcastInDim S2x2048x2048 ![0, 1, 2] bcast_S2x1x2048_S2x2048x2048_0_1_2 main_v11
  let main_v16 : FVec F S2x2048x2048 .f32 := broadcastInDim S2x2048x2048 ![0, 1, 2] bcast_S2x2048x1_S2x2048x2048_0_1_2 main_v5
  let main_v17 : FVec F S2x2048x2048 .f32 := subf main_v15 main_v16
  let main_v18 : FVec F S2x2048x2048 .f32 := broadcastInDim S2x2048x2048 ![0, 1, 2] bcast_S2x1x2048_S2x2048x2048_0_1_2 main_v14
  let main_v19 : FVec F S2x2048x2048 .f32 := broadcastInDim S2x2048x2048 ![0, 1, 2] bcast_S2x2048x1_S2x2048x2048_0_1_2 main_v8
  let main_v20 : FVec F S2x2048x2048 .f32 := subf main_v18 main_v19
  let main_cst : FVec F S_ .f32 := constant S_ .f32 0x40000000#32
  let main_v21 : FVec F S2x2048x2048 .f32 := broadcastInDim S2x2048x2048 ![] bcast_S_S2x2048x2048 main_cst
  let main_v22 : FVec F S2x2048x2048 .f32 := Host.divf main_v17 main_v21
  fn_part1 (F := F) main_arg0 main_v0 main_v1 main_v2 main_v5 main_v11 main_v20 main_v22
-- ==== Kernel.lean ====
abbrev S2x1x2048x1x32 : Shape := ⟨5, ![2, 1, 2048, 1, 32]⟩
abbrev S2x1x2048x1x2 : Shape := ⟨5, ![2, 1, 2048, 1, 2]⟩
abbrev S2x1x2048x1 : Shape := ⟨4, ![2, 1, 2048, 1]⟩
abbrev S2x2048x32 : Shape := ⟨3, ![2, 2048, 32]⟩
abbrev S2x2048x2 : Shape := ⟨3, ![2, 2048, 2]⟩
abbrev S2x2048x1 : Shape := ⟨3, ![2, 2048, 1]⟩
abbrev S2x2048 : Shape := ⟨2, ![2, 2048]⟩
abbrev S2x2x1x1024 : Shape := ⟨4, ![2, 2, 1, 1024]⟩
abbrev S2x32x2048 : Shape := ⟨3, ![2, 32, 2048]⟩
abbrev S1x2048x1 : Shape := ⟨3, ![1, 2048, 1]⟩
abbrev S1x1x1x1024 : Shape := ⟨4, ![1, 1, 1, 1024]⟩
abbrev S1x2048x32 : Shape := ⟨3, ![1, 2048, 32]⟩
abbrev S1x32x1024 : Shape := ⟨3, ![1, 32, 1024]⟩
abbrev S2048x1 : Shape := ⟨2, ![2048, 1]⟩
abbrev S1x1024 : Shape := ⟨2, ![1, 1024]⟩
abbrev S2048x1024 : Shape := ⟨2, ![2048, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S2048x32 : Shape := ⟨2, ![2048, 32]⟩
abbrev S2x1x2048x32 : Shape := ⟨4, ![2, 1, 2048, 32]⟩
abbrev S2x1x2048 : Shape := ⟨3, ![2, 1, 2048]⟩

abbrev nBuf : Space → Nat
  | .hbm => 40
  | .vmem => 20
  | .smem => 0
  | _ => 0

abbrev bufTy : (tb : Table) → Fin (tcTables nBuf tb) → BufTy
  | .hbm, ⟨0, _⟩ => ⟨S2x1x2048x1x32, .f32⟩
  | .hbm, ⟨1, _⟩ => ⟨S2x1x2048x1x2, .f32⟩
  | .hbm, ⟨2, _⟩ => ⟨S2x1x2048x1x2, .f32⟩
  | .hbm, ⟨3, _⟩ => ⟨S2x1x2048x1, .i1⟩
  | .hbm, ⟨4, _⟩ => ⟨S2x2048x32, .f32⟩
  | .hbm, ⟨5, _⟩ => ⟨S2x2048x2, .f32⟩
  | .hbm, ⟨6, _⟩ => ⟨S2x2048x2, .f32⟩
  | .hbm, ⟨7, _⟩ => ⟨S2x2048x1, .f32⟩
  | .hbm, ⟨8, _⟩ => ⟨S2x2048, .f32⟩
  | .hbm, ⟨9, _⟩ => ⟨S2x2048x1, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S2x2048x1, .f32⟩
  | .hbm, ⟨15, _⟩ => ⟨S2x2048, .f32⟩
  | .hbm, ⟨16, _⟩ => ⟨S2x2048, .f32⟩
  | .hbm, ⟨17, _⟩ => ⟨S2x2048x1, .f32⟩
  | .hbm, ⟨18, _⟩ => ⟨S2x2048, .f32⟩
  | .hbm, ⟨19, _⟩ => ⟨S2x2048x1, .f32⟩
  | .hbm, ⟨20, _⟩ => ⟨S2x2048x1, .f32⟩
  | .hbm, ⟨21, _⟩ => ⟨S2x2048, .f32⟩
  | .hbm, ⟨22, _⟩ => ⟨S2x2048x1, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S2x2048, .f32⟩
  | .hbm, ⟨27, _⟩ => ⟨S2x2x1x1024, .f32⟩
  | .hbm, ⟨28, _⟩ => ⟨S2x2048, .f32⟩
  | .hbm, ⟨29, _⟩ => ⟨S2x2048, .f32⟩
  | .hbm, ⟨30, _⟩ => ⟨S2x2x1x1024, .f32⟩
  | .hbm, ⟨31, _⟩ => ⟨S2x2048, .f32⟩
  | .hbm, ⟨32, _⟩ => ⟨S2x2x1x1024, .f32⟩
  | .hbm, ⟨33, _⟩ => ⟨S2x2048x1, .i1⟩
  | .hbm, ⟨34, _⟩ => ⟨S2x2048x1, .f32⟩
  | .hbm, ⟨35, _⟩ => ⟨S2x32x2048, .f32⟩
  | .hbm, ⟨36, _⟩ => ⟨S2x2x1x1024, .f32⟩
  | .hbm, ⟨37, _⟩ => ⟨S2x2048x32, .f32⟩
  | .hbm, ⟨38, _⟩ => ⟨S2x1x2048x32, .f32⟩
  | .hbm, ⟨39, _⟩ => ⟨S2x1x2048, .f32⟩
  | .local _ .vmem, ⟨0, _⟩ => ⟨S1x2048x1, .f32⟩
  | .local _ .vmem, ⟨1, _⟩ => ⟨S1x2048x1, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x1, .f32⟩
  | .local _ .vmem, ⟨5, _⟩ => ⟨S1x2048x1, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x2048x32, .f32⟩
  | .local _ .vmem, ⟨13, _⟩ => ⟨S1x2048x32, .f32⟩
  | .local _ .vmem, ⟨14, _⟩ => ⟨S1x2048x1, .f32⟩
  | .local _ .vmem, ⟨15, _⟩ => ⟨S1x2048x1, .f32⟩
  | .local _ .vmem, ⟨16, _⟩ => ⟨S1x32x1024, .f32⟩
  | .local _ .vmem, ⟨17, _⟩ => ⟨S1x32x1024, .f32⟩
  | .local _ .vmem, ⟨18, _⟩ => ⟨S1x1x1x1024, .f32⟩
  | .local _ .vmem, ⟨19, _⟩ => ⟨S1x1x1x1024, .f32⟩
  | _, _ => ⟨S2x1x2048x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31_0 : Ref sig .tc := ⟨.hbm, 35, rfl⟩
abbrev main_v31_1 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "third" => some ((1 / 3 : ℝ) : EReal)
  | _ => none
-- ==== ReferenceIdeal.lean ====
abbrev S2x1x2048x1x32 : Shape := ⟨5, ![2, 1, 2048, 1, 32]⟩
abbrev S2x1x2048x1x2 : Shape := ⟨5, ![2, 1, 2048, 1, 2]⟩
abbrev S2x1x2048x1 : Shape := ⟨4, ![2, 1, 2048, 1]⟩
abbrev S2x2048x32 : Shape := ⟨3, ![2, 2048, 32]⟩
abbrev S2x2048x2 : Shape := ⟨3, ![2, 2048, 2]⟩
abbrev S2x2048 : Shape := ⟨2, ![2, 2048]⟩
abbrev S2x2048x1 : Shape := ⟨3, ![2, 2048, 1]⟩
abbrev S2x1x2048 : Shape := ⟨3, ![2, 1, 2048]⟩
abbrev S2x2048x2048 : Shape := ⟨3, ![2, 2048, 2048]⟩
abbrev S_ : Shape := ⟨0, ![]⟩
abbrev S2x2048x3 : Shape := ⟨3, ![2, 2048, 3]⟩
abbrev S2x2048x3x1 : Shape := ⟨4, ![2, 2048, 3, 1]⟩
abbrev S2x2048x3x32 : Shape := ⟨4, ![2, 2048, 3, 32]⟩
abbrev S2x1x2048x32 : Shape := ⟨4, ![2, 1, 2048, 32]⟩

abbrev nBuf : Space → Nat
  | .hbm => 103
  | .vmem => 0
  | .smem => 0
  | _ => 0

abbrev bufTy : (tb : Table) → Fin (tcTables nBuf tb) → BufTy
  | .hbm, ⟨0, _⟩ => ⟨S2x1x2048x1x32, .f32⟩
  | .hbm, ⟨1, _⟩ => ⟨S2x1x2048x1x2, .f32⟩
  | .hbm, ⟨2, _⟩ => ⟨S2x1x2048x1x2, .f32⟩
  | .hbm, ⟨3, _⟩ => ⟨S2x1x2048x1, .i1⟩
  | .hbm, ⟨4, _⟩ => ⟨S2x2048x32, .f32⟩
  | .hbm, ⟨5, _⟩ => ⟨S2x2048x2, .f32⟩
  | .hbm, ⟨6, _⟩ => ⟨S2x2048x2, .f32⟩
  | .hbm, ⟨7, _⟩ => ⟨S2x2048, .i1⟩
  | .hbm, ⟨8, _⟩ => ⟨S2x2048x1, .f32⟩
  | .hbm, ⟨9, _⟩ => ⟨S2x2048, .f32⟩
  | .hbm, ⟨10, _⟩ => ⟨S2x2048x1, .f32⟩
  | .hbm, ⟨11, _⟩ => ⟨S2x2048x1, .f32⟩
  | .hbm, ⟨12, _⟩ => ⟨S2x2048, .f32⟩
  | .hbm, ⟨13, _⟩ => ⟨S2x2048x1, .f32⟩
  | .hbm, ⟨14, _⟩ => ⟨S2x2048x1, .f32⟩
  | .hbm, ⟨15, _⟩ => ⟨S2x2048, .f32⟩
  | .hbm, ⟨16, _⟩ => ⟨S2x1x2048, .f32⟩
  | .hbm, ⟨17, _⟩ => ⟨S2x2048x1, .f32⟩
  | .hbm, ⟨18, _⟩ => ⟨S2x2048, .f32⟩
  | .hbm, ⟨19, _⟩ => ⟨S2x1x2048, .f32⟩
  | .hbm, ⟨20, _⟩ => ⟨S2x2048x2048, .f32⟩
  | .hbm, ⟨21, _⟩ => ⟨S2x2048x2048, .f32⟩
  | .hbm, ⟨22, _⟩ => ⟨S2x2048x2048, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S2x2048x1, .f32⟩
  | .hbm, ⟨32, _⟩ => ⟨S2x1x2048, .f32⟩
  | .hbm, ⟨33, _⟩ => ⟨S2x2048x2048, .f32⟩
  | .hbm, ⟨34, _⟩ => ⟨S2x2048x2048, .f32⟩
  | .hbm, ⟨35, _⟩ => ⟨S2x2048x2048, .f32⟩
  | .hbm, ⟨36, _⟩ => ⟨S_, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S2x2048x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2x2048x2048, .f32⟩
  | .hbm, ⟨47, _⟩ => ⟨S2x2048x2048, .f32⟩
  | .hbm, ⟨48, _⟩ => ⟨S_, .f32⟩
  | .hbm, ⟨49, _⟩ => ⟨S2x2048x2048, .f32⟩
  | .hbm, ⟨50, _⟩ => ⟨S2x2048x2048, .f32⟩
  | .hbm, ⟨51, _⟩ => ⟨S2x2048x2048, .f32⟩
  | .hbm, ⟨52, _⟩ => ⟨S2x2048x2048, .f32⟩
  | .hbm, ⟨53, _⟩ => ⟨S_, .f32⟩
  | .hbm, ⟨54, _⟩ => ⟨S2x2048x2048, .f32⟩
  | .hbm, ⟨55, _⟩ => ⟨S2x2048x2048, .f32⟩
  | .hbm, ⟨56, _⟩ => ⟨S2x1x2048, .i1⟩
  | .hbm, ⟨57, _⟩ => ⟨S_, .f32⟩
  | .hbm, ⟨58, _⟩ => ⟨S_, .f32⟩
  | .hbm, ⟨59, _⟩ => ⟨S2x2048x2048, .i1⟩
  | .hbm, ⟨60, _⟩ => ⟨S2x2048x2048, .f32⟩
  | .hbm, ⟨61, _⟩ => ⟨S2x2048x2048, .f32⟩
  | .hbm, ⟨62, _⟩ => ⟨S2x2048x2048, .f32⟩
  | .hbm, ⟨63, _⟩ => ⟨S2x2048x3, .f32⟩
  | .hbm, ⟨64, _⟩ => ⟨S2x2048x3, .i32⟩
  | .hbm, ⟨65, _⟩ => ⟨S2x2048x3, .f32⟩
  | .hbm, ⟨66, _⟩ => ⟨S_, .f32⟩
  | .hbm, ⟨67, _⟩ => ⟨S2x2048x3, .f32⟩
  | .hbm, ⟨68, _⟩ => ⟨S2x2048x3, .f32⟩
  | .hbm, ⟨69, _⟩ => ⟨S_, .f32⟩
  | .hbm, ⟨70, _⟩ => ⟨S2x2048x3, .f32⟩
  | .hbm, ⟨71, _⟩ => ⟨S2x2048x3, .f32⟩
  | .hbm, ⟨72, _⟩ => ⟨S_, .f32⟩
  | .hbm, ⟨73, _⟩ => ⟨S2x2048, .f32⟩
  | .hbm, ⟨74, _⟩ => ⟨S2x2048x1, .f32⟩
  | .hbm, ⟨75, _⟩ => ⟨S2x2048x3, .f32⟩
  | .hbm, ⟨76, _⟩ => ⟨S2x2048x3, .f32⟩
  | .hbm, ⟨77, _⟩ => ⟨S_, .i32⟩
  | .hbm, ⟨78, _⟩ => ⟨S2x2048x3, .i32⟩
  | .hbm, ⟨79, _⟩ => ⟨S2x2048x3, .i1⟩
  | .hbm, ⟨80, _⟩ => ⟨S_, .i32⟩
  | .hbm, ⟨81, _⟩ => ⟨S2x2048x3, .i32⟩
  | .hbm, ⟨82, _⟩ => ⟨S2x2048x3, .i32⟩
  | .hbm, ⟨83, _⟩ => ⟨S2x2048x3, .i32⟩
  | .hbm, ⟨84, _⟩ => ⟨S2x2048x3x1, .i32⟩
  | .hbm, ⟨85, _⟩ => ⟨S2x2048x3x32, .f32⟩
  | .hbm, ⟨86, _⟩ => ⟨S2x2048x3x1, .f32⟩
  | .hbm, ⟨87, _⟩ => ⟨S2x2048x3x32, .f32⟩
  | .hbm, ⟨88, _⟩ => ⟨S2x2048x3x32, .f32⟩
  | .hbm, ⟨89, _⟩ => ⟨S_, .f32⟩
  | .hbm, ⟨90, _⟩ => ⟨S2x2048x32, .f32⟩
  | .hbm, ⟨91, _⟩ => ⟨S2x2048x3, .f32⟩
  | .hbm, ⟨92, _⟩ => ⟨S2x2048x3, .f32⟩
  | .hbm, ⟨93, _⟩ => ⟨S_, .f32⟩
  | .hbm, ⟨94, _⟩ => ⟨S2x2048, .f32⟩
  | .hbm, ⟨95, _⟩ => ⟨S_, .f32⟩
  | .hbm, ⟨96, _⟩ => ⟨S2x2048, .f32⟩
  | .hbm, ⟨97, _⟩ => ⟨S2x2048, .f32⟩
  | .hbm, ⟨98, _⟩ => ⟨S2x1x2048x32, .f32⟩
  | .hbm, ⟨99, _⟩ => ⟨S_, .f32⟩
  | .hbm, ⟨100, _⟩ => ⟨S2x2048, .f32⟩
  | .hbm, ⟨101, _⟩ => ⟨S2x2048, .f32⟩
  | .hbm, ⟨102, _⟩ => ⟨S2x1x2048, .f32⟩
  | _, _ => ⟨S2x1x2048x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v43 : Ref sig .tc := ⟨.hbm, 61, rfl⟩
abbrev main_v44 : Ref sig .tc := ⟨.hbm, 62, rfl⟩
abbrev main_values : Ref sig .tc := ⟨.hbm, 63, rfl⟩
abbrev main_indices : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Proof.Geometry.lean ====
/- The two distances on the sphere. The kernel takes the squared chord between the unit vectors of two positions, a
   quarter of which is the haversine the reference takes; the kernel's angle by the arc tangent of two roots is the
   reference's by the arc sine. -/
module

public import Idealize.ShloMosaic.PureOps.Ideal
public import Mathlib.Analysis.SpecialFunctions.Trigonometric.Arctan

@[expose] public section

noncomputable section

namespace Cert.Geometry

open Idealize.ShloMosaic

/-- The haversine of the angle between the positions of latitudes `p₁`, `p₂` and longitudes `l₁`, `l₂`. -/
def hav (p₁ l₁ p₂ l₂ : ℝ) : ℝ :=
  Real.sin ((p₂ - p₁) / 2) * Real.sin ((p₂ - p₁) / 2)
    + Real.cos p₁ * Real.cos p₂ * (Real.sin ((l₂ - l₁) / 2) * Real.sin ((l₂ - l₁) / 2))

/-- The squared chord between the two positions' unit vectors. -/
def chord (p₁ l₁ p₂ l₂ : ℝ) : ℝ :=
  (Real.cos p₂ * Real.cos l₂ - Real.cos p₁ * Real.cos l₁) * (Real.cos p₂ * Real.cos l₂ - Real.cos p₁ * Real.cos l₁)
    + (Real.cos p₂ * Real.sin l₂ - Real.cos p₁ * Real.sin l₁) * (Real.cos p₂ * Real.sin l₂ - Real.cos p₁ * Real.sin l₁)
    + (Real.sin p₂ - Real.sin p₁) * (Real.sin p₂ - Real.sin p₁)

/-- The square of the sine of a half angle. -/
theorem sin_half_sq (x : ℝ) : Real.sin (x / 2) * Real.sin (x / 2) = (1 - Real.cos x) / 2 := by
  have h1 := Real.cos_two_mul (x / 2)
  have h2 := Real.sin_sq_add_cos_sq (x / 2)
  rw [show 2 * (x / 2) = x by ring] at h1
  linear_combination h2 + h1 / 2

/-- A quarter of the squared chord is the haversine. -/
theorem chord_eq (p₁ l₁ p₂ l₂ : ℝ) : chord p₁ l₁ p₂ l₂ = 4 * hav p₁ l₁ p₂ l₂ := by
  unfold chord hav
  rw [sin_half_sq, sin_half_sq, Real.cos_sub, Real.cos_sub]
  linear_combination (Real.cos p₂) ^ 2 * Real.sin_sq_add_cos_sq l₂ + (Real.cos p₁) ^ 2 * Real.sin_sq_add_cos_sq l₁
    + Real.sin_sq_add_cos_sq p₁ + Real.sin_sq_add_cos_sq p₂

/-- A haversine is not negative. -/
theorem hav_nonneg (p₁ l₁ p₂ l₂ : ℝ) : 0 ≤ hav p₁ l₁ p₂ l₂ := by
  have h := chord_eq p₁ l₁ p₂ l₂
  have : 0 ≤ chord p₁ l₁ p₂ l₂ := by
    unfold chord
    exact add_nonneg (add_nonneg (mul_self_nonneg _) (mul_self_nonneg _)) (mul_self_nonneg _)
  linarith

/-- The haversine is at most one: the chord is at most a diameter. -/
theorem hav_le_one (p₁ l₁ p₂ l₂ : ℝ) : hav p₁ l₁ p₂ l₂ ≤ 1 := by
  have h : 4 - 4 * hav p₁ l₁ p₂ l₂
      = (Real.cos p₂ * Real.cos l₂ + Real.cos p₁ * Real.cos l₁) * (Real.cos p₂ * Real.cos l₂ + Real.cos p₁ * Real.cos l₁)
        + (Real.cos p₂ * Real.sin l₂ + Real.cos p₁ * Real.sin l₁) * (Real.cos p₂ * Real.sin l₂ + Real.cos p₁ * Real.sin l₁)
        + (Real.sin p₂ + Real.sin p₁) * (Real.sin p₂ + Real.sin p₁) := by
    unfold hav
    rw [sin_half_sq, sin_half_sq, Real.cos_sub, Real.cos_sub]
    linear_combination -(Real.cos p₂) ^ 2 * Real.sin_sq_add_cos_sq l₂ - (Real.cos p₁) ^ 2 * Real.sin_sq_add_cos_sq l₁
      - Real.sin_sq_add_cos_sq p₁ - Real.sin_sq_add_cos_sq p₂
  have := add_nonneg (add_nonneg
    (mul_self_nonneg (Real.cos p₂ * Real.cos l₂ + Real.cos p₁ * Real.cos l₁))
    (mul_self_nonneg (Real.cos p₂ * Real.sin l₂ + Real.cos p₁ * Real.sin l₁)))
    (mul_self_nonneg (Real.sin p₂ + Real.sin p₁))
  linarith

/-- The angle of the haversine `h`. -/
def arc (h : ℝ) : ℝ := 2 * Real.arcsin (Real.sqrt h)

/-- The angle grows with the haversine. -/
theorem arc_lt_arc {h h' : ℝ} (h0 : 0 ≤ h) (h1 : h' ≤ 1) (hh : h < h') : arc h < arc h' := by
  unfold arc
  have hs : Real.sqrt h < Real.sqrt h' := Real.sqrt_lt_sqrt h0 hh
  have hs1 : Real.sqrt h' ≤ 1 := Real.sqrt_le_one.mpr h1
  have := Real.sqrt_nonneg h
  have := Real.strictMonoOn_arcsin (a := Real.sqrt h) (b := Real.sqrt h') ⟨by linarith, by linarith⟩
    ⟨by linarith, hs1⟩ hs
  linarith

/-- No angle reaches the distance given to a key outside the mask. -/
theorem arc_lt_big (h : ℝ) : arc h < 1000000000 := by
  unfold arc
  have := Real.arcsin_le_pi_div_two (Real.sqrt h)
  have := Real.pi_le_four
  linarith

/-- The arc tangent of two real arguments, by the cases of its signs. -/
theorem atan2_coe (y x : ℝ) : Ideal.atan2 (y : EReal) (x : EReal)
    = ((if 0 < x then Real.arctan (y / x)
        else if x < 0 then (if 0 ≤ y then Real.arctan (y / x) + Real.pi else Real.arctan (y / x) - Real.pi)
        else if 0 < y then Real.pi / 2 else if y < 0 then -(Real.pi / 2) else 0 : ℝ) : EReal) := rfl

/-- The arc tangent of the two roots is the arc sine of the first. -/
theorem atan2_roots {h : ℝ} (h0 : 0 ≤ h) (h1 : h ≤ 1) :
    Ideal.atan2 (Real.sqrt h : EReal) (Real.sqrt (1 - h) : EReal) = (Real.arcsin (Real.sqrt h) : EReal) := by
  rw [atan2_coe]
  rcases h1.lt_or_eq with h1 | rfl
  · have hp : 0 < Real.sqrt (1 - h) := Real.sqrt_pos.mpr (by linarith)
    have hs1 : Real.sqrt h < 1 := by
      rw [Real.sqrt_lt' one_pos]; simpa using h1
    have := Real.sqrt_nonneg h
    have e := Real.arcsin_eq_arctan (x := Real.sqrt h) ⟨by linarith, hs1⟩
    rw [Real.sq_sqrt h0] at e
    simp only [if_pos hp, e]
  · simp

/-- The kernel's distance, from the squared chord. -/
def chordDist (s : EReal) : EReal :=
  ((2 : ℝ) : EReal) * Ideal.atan2 (Ideal.sqrt (min ((1 : ℝ) : EReal) (max 0 (s * ((1 / 4 : ℝ) : EReal)))))
    (Ideal.sqrt (((1 : ℝ) : EReal) - min ((1 : ℝ) : EReal) (max 0 (s * ((1 / 4 : ℝ) : EReal)))))

/-- The reference's distance, from the haversine. -/
def havDist (t : EReal) : EReal :=
  ((2 : ℝ) : EReal) * Ideal.asin (Ideal.sqrt (min ((1 : ℝ) : EReal) (max 0 t)))

/-- Clipping to the unit interval leaves a number of the interval alone. -/
theorem clip_coe {h : ℝ} (h0 : 0 ≤ h) (h1 : h ≤ 1) :
    min ((1 : ℝ) : EReal) (max 0 (h : EReal)) = (h : EReal) := by
  rw [max_eq_right (by exact_mod_cast h0), min_eq_right (by exact_mod_cast h1)]

/-- The kernel's distance at four times the haversine `h` is the angle of `h`. -/
theorem chordDist_coe {h : ℝ} (h0 : 0 ≤ h) (h1 : h ≤ 1) : chordDist ((4 * h : ℝ) : EReal) = (arc h : EReal) := by
  unfold chordDist arc
  rw [← EReal.coe_mul, show 4 * h * (1 / 4) = h by ring, clip_coe h0 h1, ← EReal.coe_sub, Ideal.sqrt_coe, Ideal.sqrt_coe,
    if_neg (not_lt.mpr h0), if_neg (by linarith), atan2_roots h0 h1, EReal.coe_mul]

/-- The reference's distance at the haversine `h` is the angle of `h`. -/
theorem havDist_coe {h : ℝ} (h0 : 0 ≤ h) (h1 : h ≤ 1) : havDist (h : EReal) = (arc h : EReal) := by
  unfold havDist arc
  have hs := Real.sqrt_nonneg h
  rw [clip_coe h0 h1, Ideal.sqrt_coe, if_neg (not_lt.mpr h0), Ideal.asin_coe,
    if_pos ⟨by linarith, Real.sqrt_le_one.mpr h1⟩, EReal.coe_mul]

/-- The haversine as the reference computes it. -/
def refHav (p₁ l₁ p₂ l₂ : EReal) : EReal :=
  Ideal.sin (Ideal.div (p₂ - p₁) ((2 : ℝ) : EReal)) * Ideal.sin (Ideal.div (p₂ - p₁) ((2 : ℝ) : EReal))
    + Ideal.cos p₁ * Ideal.cos p₂
      * (Ideal.sin (Ideal.div (l₂ - l₁) ((2 : ℝ) : EReal)) * Ideal.sin (Ideal.div (l₂ - l₁) ((2 : ℝ) : EReal)))

/-- At real positions the reference's haversine is the haversine. -/
theorem refHav_coe (p₁ l₁ p₂ l₂ : ℝ) : refHav p₁ l₁ p₂ l₂ = (hav p₁ l₁ p₂ l₂ : EReal) := by
  unfold refHav hav
  rw [← EReal.coe_sub, ← EReal.coe_sub, Ideal.div_coe two_ne_zero, Ideal.div_coe two_ne_zero, ← EReal.coe_mul,
    ← EReal.coe_mul, Ideal.sin_coe, Ideal.sin_coe, Ideal.cos_coe, Ideal.cos_coe, mul_one_div, mul_one_div]
  norm_cast

/-- The squared chord as the kernel computes it, from the coordinates of the unit vectors. -/
def kerChord (p₁ l₁ p₂ l₂ : EReal) : EReal :=
  (Ideal.cos p₂ * Ideal.cos l₂ - Ideal.cos p₁ * Ideal.cos l₁) * (Ideal.cos p₂ * Ideal.cos l₂ - Ideal.cos p₁ * Ideal.cos l₁)
    + (Ideal.cos p₂ * Ideal.sin l₂ - Ideal.cos p₁ * Ideal.sin l₁) * (Ideal.cos p₂ * Ideal.sin l₂ - Ideal.cos p₁ * Ideal.sin l₁)
    + (Ideal.sin p₂ - Ideal.sin p₁) * (Ideal.sin p₂ - Ideal.sin p₁)

/-- At real positions the kernel's squared chord is four times the haversine. -/
theorem kerChord_coe (p₁ l₁ p₂ l₂ : ℝ) : kerChord p₁ l₁ p₂ l₂ = ((4 * hav p₁ l₁ p₂ l₂ : ℝ) : EReal) := by
  rw [← chord_eq]
  unfold kerChord chord
  simp only [Ideal.sin_coe, Ideal.cos_coe]
  norm_cast

end Cert.Geometry

end
-- ==== Proof.Network.lean ====
/- The three running minima of the kernel as a counting statement. A triple of values stands for the three smallest
   keys seen so far when, below the filler 25, each of them compares with a threshold as the number of keys under that
   threshold says. One key is inserted into a triple, and two triples are merged, by minima and maxima alone; both
   steps keep the statement. -/
module

public import Idealize.ShloMosaic.PureOps.Ideal

@[expose] public section

noncomputable section

namespace Cert.Network

/-- The values `a`, `b`, `c` compare with the threshold `x` as the first, second and third smallest of a collection
    that has `n` members at most `x`. -/
def Low3 (x : EReal) (n : ℕ) (a b c : EReal) : Prop :=
  (a ≤ x ↔ 1 ≤ n) ∧ (b ≤ x ↔ 2 ≤ n) ∧ (c ≤ x ↔ 3 ≤ n)

/-- A single key `v`, with a filler above the threshold in the two other places. -/
theorem low3_one {x v f : EReal} (hf : x < f) : Low3 x (if v ≤ x then 1 else 0) v f f := by
  have hf' : ¬ f ≤ x := not_le.mpr hf
  unfold Low3
  by_cases h : v ≤ x <;> simp [h, hf']

/-- Inserting the key `v` into a triple. -/
theorem low3_insert {x a b c v : EReal} {n : ℕ} (h : Low3 x n a b c) :
    Low3 x (n + if v ≤ x then 1 else 0) (min a v) (min b (max a v)) (min c (max b (max a v))) := by
  obtain ⟨h1, h2, h3⟩ := h
  unfold Low3
  simp only [min_le_iff, max_le_iff, h1, h2, h3]
  by_cases hv : v ≤ x
  · simp only [hv, or_true, true_or, and_true, true_and, if_true, true_iff]
    omega
  · simp only [hv, or_false, and_false, false_or, false_and, if_false]
    omega

/-- Merging two triples: the first and second of the two, in the order in which the kernel takes them, and the third
    of the two. -/
theorem low3_merge {x a b c a' b' c' : EReal} {n n' : ℕ} (h : Low3 x n a b c) (h' : Low3 x n' a' b' c') :
    Low3 x (n + n') (min a a') (min (max a a') (min b b'))
      (min (max (max a a') (min b b')) (min c c')) := by
  obtain ⟨h1, h2, h3⟩ := h
  obtain ⟨g1, g2, g3⟩ := h'
  unfold Low3
  simp only [min_le_iff, max_le_iff, h1, h2, h3, g1, g2, g3]
  omega

/-- A member of a triple equals the value `y` when it compares with every threshold below the filler `f` as `y` does,
    and `y` is itself below the filler. -/
theorem eq_of_threshold {a y f : EReal} (hy : y < f) (h : ∀ x, x < f → (a ≤ x ↔ y ≤ x)) : a = y := by
  have h1 : a ≤ y := (h y hy).2 le_rfl
  exact le_antisymm h1 ((h a (lt_of_le_of_lt h1 hy)).1 le_rfl)

/-- Counting over `n` stretches of `b` keys each is counting over the whole. -/
theorem sum_chunks (b n : ℕ) (f : ℕ → ℕ) :
    ∑ r ∈ Finset.range b, ∑ k ∈ Finset.range n, f (k * b + r) = ∑ i ∈ Finset.range (n * b), f i := by
  rw [Finset.sum_comm]
  induction n with
  | zero => simp
  | succ n ih => rw [Finset.sum_range_succ, ih, Nat.succ_mul, Finset.sum_range_add]

/-- Folding the upper half of the rows onto the lower half. -/
def fold (m : ℕ) (N : ℕ → ℕ) (r : ℕ) : ℕ := N r + N (m + r)

/-- Folding keeps the total count. -/
theorem sum_fold (m : ℕ) (N : ℕ → ℕ) :
    ∑ r ∈ Finset.range m, fold m N r = ∑ r ∈ Finset.range (m + m), N r := by
  unfold fold
  rw [Finset.sum_add_distrib, Finset.sum_range_add]

end Cert.Network

end
-- ==== Proof.Nearest.lean ====
/- The three nearest keys. `order` lists the positions of a family of values with the greatest first, as the reference's
   selection does; the kernel's three running minima are the values at the first three positions, and its sum over all
   keys is the sum over those three. -/
module

public import proofs.«01_k».proof.Proof.Network
public import Idealize.ShloMosaic.PureOps.ShapeOps
public import Idealize.ShloMosaic.Lib.SortFacts
public import Idealize.ShloMosaic.Lib.Pointwise

@[expose] public section

set_option maxRecDepth 16384

noncomputable section

namespace Cert.Nearest

open Idealize.ShloMosaic Cert.Network

/-- The positions of `f`'s values, the greatest value first, equal values in the order of their positions. -/
def order {n : ℕ} (f : Fin n → EReal) : Fin n → Fin n := sortedFrom fun k k' => decide (f k' < f k)

/-- The order lists every position once. -/
theorem order_bijective {n : ℕ} (f : Fin n → EReal) : Function.Bijective (order f) :=
  ⟨sortedFrom_injective _, sortedFrom_surjective _⟩

/-- No later position has a greater value. -/
theorem order_antitone {n : ℕ} (f : Fin n → EReal) {i j : Fin n} (h : i ≤ j) : f (order f j) ≤ f (order f i) := by
  rcases h.lt_or_eq with h | rfl
  · have := sortedFrom_noInversion (fun k k' => decide (f k' < f k)) (fun k k' => decide (f k' < f k))
      (fun a b hab => by simp only [decide_eq_true_eq, decide_eq_false_iff_not, not_lt] at hab ⊢; exact hab.le)
      (fun _ _ hab => hab)
      (fun a b c hab hbc => by
        simp only [decide_eq_false_iff_not, not_lt] at hab hbc ⊢; exact hab.trans hbc) i j h
    exact not_lt.mp (of_decide_eq_false this)
  · exact le_rfl

/-- The selection's comparison is the strict order. -/
theorem gt_eq (a b : EReal) :
    (FloatOps.cmpfTotal (F := Ideal) (φ := .f32) .gt a b == 1#1) = decide (b < a) := by
  show (BitVec.ofBool (decide (b < a)) == 1#1) = decide (b < a)
  by_cases h : b < a <;> simp [h]

section select

variable {B Q N K : ℕ} (x : (⟨3, ![B, Q, N]⟩ : Shape).Idx → EReal)
  (h : (⟨3, ![B, Q, N]⟩ : Shape).Slices (fun _ => 0) ⟨3, ![B, Q, K]⟩) (hK : K ≤ N) (b : Fin B) (q : Fin Q) (k : Fin K)

/-- Moving along the last axis replaces the last coordinate. -/
theorem along_ix3 (b : Fin B) (q : Fin Q) (k : Fin N) (k' : Fin N) :
    (ix3 b q k).along (2 : Fin 3) k' = ix3 b q k' := by
  funext a
  match a with
  | ⟨0, _⟩ => rfl
  | ⟨1, _⟩ => rfl
  | ⟨2, _⟩ => rfl

/-- The leading part of the last axis keeps its coordinates. -/
theorem slice_ix3 {α : Type} (y : (⟨3, ![B, Q, N]⟩ : Shape).Idx → α) :
    extractStridedSlice ⟨3, ![B, Q, K]⟩ (fun _ => 0) y h (ix3 b q k) = y (ix3 b q (k.castLE hK)) := by
  refine congrArg y (funext fun a => ?_)
  match a with
  | ⟨0, _⟩ => exact Fin.ext (Nat.zero_add _)
  | ⟨1, _⟩ => exact Fin.ext (Nat.zero_add _)
  | ⟨2, _⟩ => exact Fin.ext (Nat.zero_add _)

/-- The selection's sorting of one row is the order of that row. -/
theorem pos_eq (j : Fin N) :
    sortedFrom (fun k k' : Fin N => FloatOps.cmpfTotal (F := Ideal) (φ := .f32) .gt
        (x ((ix3 b q j).along (2 : Fin 3) k)) (x ((ix3 b q j).along (2 : Fin 3) k')) == 1#1) j
      = order (fun i => x (ix3 b q i)) j := by
  unfold order
  congr 1
  funext k k'
  rw [gt_eq, along_ix3, along_ix3]

/-- The `k`-th selected value. -/
theorem topK_value :
    (Host.topK ⟨3, ![B, Q, K]⟩ 2 (FloatOps.cmpfTotal (F := Ideal) (φ := .f32) .gt) x h).1 (ix3 b q k)
      = x (ix3 b q (order (fun i => x (ix3 b q i)) (k.castLE hK))) := by
  unfold Host.topK Host.sort2
  dsimp only
  rw [dif_pos (show 2 < (⟨3, ![B, Q, N]⟩ : Shape).rank from Nat.lt_succ_self 2)]
  refine (slice_ix3 h hK b q k _).trans ?_
  refine (congrArg x (congrArg ((ix3 b q (k.castLE hK)).along (2 : Fin 3)) (pos_eq x b q (k.castLE hK)))).trans ?_
  rw [along_ix3]

/-- The `k`-th selected position, as a word. -/
theorem topK_index :
    (Host.topK ⟨3, ![B, Q, K]⟩ 2 (FloatOps.cmpfTotal (F := Ideal) (φ := .f32) .gt) x h).2 (ix3 b q k)
      = BitVec.ofNat 32 (order (fun i => x (ix3 b q i)) (k.castLE hK)).val := by
  unfold Host.topK Host.sort2
  dsimp only
  rw [dif_pos (show 2 < (⟨3, ![B, Q, N]⟩ : Shape).rank from Nat.lt_succ_self 2)]
  refine (slice_ix3 h hK b q k _).trans ?_
  have e := pos_eq x b q (k.castLE hK)
  show BitVec.ofNat 32 _ = _
  refine congrArg (BitVec.ofNat 32) ?_
  refine Eq.trans (congrArg (fun i : (⟨3, ![B, Q, N]⟩ : Shape).Idx => (i 2).val)
    (congrArg ((ix3 b q (k.castLE hK)).along (2 : Fin 3)) e)) ?_
  rw [along_ix3]
  rfl

end select

section three

variable {S D : Fin 2048 → EReal} {σ : Fin 2048 → Fin 2048} {f : EReal}

/-- With the positions listed in the order of their values, the value at place `k` is at most `x` exactly when more
    than `k` values are. -/
theorem le_iff_count (hb : Function.Bijective σ) (hm : ∀ i j, i ≤ j → S (σ i) ≤ S (σ j)) (k : Fin 2048) (x : EReal) :
    S (σ k) ≤ x ↔ k.val + 1 ≤ (Finset.univ.filter fun i : Fin 2048 => S i ≤ x).card := by
  constructor
  · intro h
    have hs : (Finset.Iic k).image σ ⊆ Finset.univ.filter fun i : Fin 2048 => S i ≤ x := by
      intro i hi
      obtain ⟨j, hj, rfl⟩ := Finset.mem_image.mp hi
      exact Finset.mem_filter.mpr ⟨Finset.mem_univ _, (hm j k (Finset.mem_Iic.mp hj)).trans h⟩
    have := Finset.card_le_card hs
    rwa [Finset.card_image_of_injective _ hb.1, Fin.card_Iic] at this
  · intro h
    by_contra hn
    have hs : (Finset.univ.filter fun i : Fin 2048 => S i ≤ x) ⊆ (Finset.Iio k).image σ := by
      intro i hi
      obtain ⟨j, rfl⟩ := hb.2 i
      refine Finset.mem_image_of_mem _ (Finset.mem_Iio.mpr ?_)
      by_contra hj
      exact hn ((hm k j (not_lt.mp hj)).trans (Finset.mem_filter.mp hi).2)
    have := Finset.card_le_card hs
    rw [Finset.card_image_of_injective _ hb.1, Fin.card_Iio] at this
    omega

/-- The kernel's three minima are the values at the first three places. -/
theorem three_minima (hb : Function.Bijective σ) (hm : ∀ i j, i ≤ j → S (σ i) ≤ S (σ j)) (hf : ∀ i, S i < f)
    {a b c : EReal}
    (h : ∀ x, x < f → Low3 x (Finset.univ.filter fun i : Fin 2048 => S i ≤ x).card a b c) :
    a = S (σ 0) ∧ b = S (σ 1) ∧ c = S (σ 2) :=
  ⟨eq_of_threshold (hf _) fun x hx => (h x hx).1.trans (le_iff_count hb hm 0 x).symm,
    eq_of_threshold (hf _) fun x hx => (h x hx).2.1.trans (le_iff_count hb hm 1 x).symm,
    eq_of_threshold (hf _) fun x hx => (h x hx).2.2.trans (le_iff_count hb hm 2 x).symm⟩

/-- The keys whose value is one of the first three are the keys at the first three places. -/
theorem sum_three (hb : Function.Bijective σ) (hm : ∀ i j, i ≤ j → S (σ i) ≤ S (σ j)) (hs : S (σ 2) < S (σ 3))
    (F : Fin 2048 → EReal) (W : EReal → EReal) :
    (∑ i, F i * (if S i = S (σ 0) then W (S (σ 0)) else if S i = S (σ 1) then W (S (σ 1))
        else if S i = S (σ 2) then W (S (σ 2)) else 0))
      = F (σ 0) * W (S (σ 0)) + F (σ 1) * W (S (σ 1)) + F (σ 2) * W (S (σ 2)) := by
  have hW : ∀ i, (if S i = S (σ 0) then W (S (σ 0)) else if S i = S (σ 1) then W (S (σ 1))
        else if S i = S (σ 2) then W (S (σ 2)) else 0)
      = if S i = S (σ 0) ∨ S i = S (σ 1) ∨ S i = S (σ 2) then W (S i) else 0 := by
    intro i
    by_cases h0 : S i = S (σ 0)
    · rw [if_pos h0, if_pos (Or.inl h0), h0]
    · by_cases h1 : S i = S (σ 1)
      · rw [if_neg h0, if_pos h1, if_pos (Or.inr (Or.inl h1)), h1]
      · by_cases h2 : S i = S (σ 2)
        · rw [if_neg h0, if_neg h1, if_pos h2, if_pos (Or.inr (Or.inr h2)), h2]
        · rw [if_neg h0, if_neg h1, if_neg h2, if_neg (not_or.mpr ⟨h0, not_or.mpr ⟨h1, h2⟩⟩)]
  simp only [hW]
  rw [← (Equiv.ofBijective σ hb).sum_comp]
  have hz : ∀ j ∈ Finset.univ, j ∉ ({0, 1, 2} : Finset (Fin 2048)) →
      F (σ j) * (if S (σ j) = S (σ 0) ∨ S (σ j) = S (σ 1) ∨ S (σ j) = S (σ 2) then W (S (σ j)) else 0) = 0 := by
    intro j _ hj
    simp only [Finset.mem_insert, Finset.mem_singleton, not_or] at hj
    have h3 : (3 : Fin 2048) ≤ j := by
      have h0 : j.val ≠ 0 := fun h => hj.1 (Fin.ext h)
      have h1 : j.val ≠ 1 := fun h => hj.2.1 (Fin.ext h)
      have h2 : j.val ≠ 2 := fun h => hj.2.2 (Fin.ext h)
      show 3 ≤ j.val
      omega
    have hlt : S (σ 2) < S (σ j) := hs.trans_le (hm 3 j h3)
    have h02 : S (σ 0) ≤ S (σ 2) := hm 0 2 (by decide)
    have h12 : S (σ 1) ≤ S (σ 2) := hm 1 2 (by decide)
    rw [if_neg, mul_zero]
    rintro (h | h | h)
    · exact absurd h (h02.trans_lt hlt).ne'
    · exact absurd h (h12.trans_lt hlt).ne'
    · exact absurd h hlt.ne'
  refine (Finset.sum_subset (Finset.subset_univ ({0, 1, 2} : Finset (Fin 2048))) hz).symm.trans ?_
  rw [Finset.sum_insert (by decide), Finset.sum_insert (by decide), Finset.sum_singleton]
  simp only [Equiv.ofBijective_apply, true_or, or_true, if_true]
  rw [add_assoc]

end three

end Cert.Nearest

end
-- ==== Proof.Consts.lean ====
/- The float constants of the programs, as the real numbers their patterns denote. One module states them, so that no
   other unfolds the reading of a pattern. -/
module

public import Idealize.ShloMosaic.PureOps.Ideal

@[expose] public section

noncomputable section

namespace Cert.Consts

open Idealize.ShloMosaic

/-- The filler of the running minima. -/
theorem ofBits_25 : Ideal.ofBits .f32 0x41C80000#32 = ((25 : ℝ) : EReal) := by
  simp [Ideal.ofBits, Ideal.ieee, -EReal.coe_mul]; norm_num

/-- The distance the kernel gives a key outside the mask. -/
theorem ofBits_9 : Ideal.ofBits .f32 0x41100000#32 = ((9 : ℝ) : EReal) := by
  simp [Ideal.ofBits, Ideal.ieee, -EReal.coe_mul]; norm_num

/-- One quarter. -/
theorem ofBits_quarter : Ideal.ofBits .f32 0x3E800000#32 = ((1 / 4 : ℝ) : EReal) := by
  simp [Ideal.ofBits, Ideal.ieee, -EReal.coe_mul]; norm_num

/-- Two. -/
theorem ofBits_2 : Ideal.ofBits .f32 0x40000000#32 = ((2 : ℝ) : EReal) := by
  simp [Ideal.ofBits, Ideal.ieee, -EReal.coe_mul]; norm_num

/-- Three. -/
theorem ofBits_3 : Ideal.ofBits .f32 0x40400000#32 = ((3 : ℝ) : EReal) := by
  simp [Ideal.ofBits, Ideal.ieee, -EReal.coe_mul]; norm_num

/-- The distance the reference gives a key outside the mask. -/
theorem ofBits_1e9 : Ideal.ofBits .f32 0x4E6E6B28#32 = ((1000000000 : ℝ) : EReal) := by
  simp [Ideal.ofBits, Ideal.ieee, -EReal.coe_mul]; norm_num

/-- One. -/
theorem ofBits_1 : Ideal.ofBits .f32 0x3F800000#32 = ((1 : ℝ) : EReal) := by
  simp [Ideal.ofBits, Ideal.ieee, -EReal.coe_mul]; try norm_num

/-- Zero. -/
theorem ofBits_0 : Ideal.ofBits .f32 0x00000000#32 = 0 := by
  simp [Ideal.ofBits, Ideal.ieee]

/-- The bound of the finiteness conditions. -/
theorem ofBits_inf : Ideal.ofBits .f32 0x7F800000#32 = (⊤ : EReal) := by
  simp [Ideal.ofBits, Ideal.ieee]

end Cert.Consts

end
-- ==== Proof.Rows.lean ====
/- The counting statement of Proof/Network.lean for whole arrays of rows: the triple of arrays after `k` stretches of
   128 keys, the step that takes in one more stretch, and the step that folds the lower half of the rows onto the upper
   half. -/
module

public import proofs.«01_k».proof.Proof.Network
public import proofs.«01_k».proof.Proof.Gen.KernelIdeal.Skeleton
public import Idealize.ShloMosaic.Lib.Pointwise

@[expose] public section

set_option maxRecDepth 16384

noncomputable section

namespace Cert.Rows

open Idealize.ShloMosaic Cert.KernelIdeal Cert.Network

/-- An array of `m` rows of 1024 queries. -/
local notation "Arr" m => FVec Ideal (⟨2, ![m, 1024]⟩ : Shape) FTy.f32

/-- Key `n` of the query column `q`; past the last key, nothing below any threshold. -/
def colAt (s : Arr 2048) (q : Fin 1024) (n : ℕ) : EReal := if h : n < 2048 then s (ix2 ⟨n, h⟩ q) else ⊤

/-- In row `r` of column `q`, the three arrays hold a triple of a collection with `N r` members at most `x`. -/
def Triple {m : ℕ} (x : EReal) (q : Fin 1024) (N : ℕ → ℕ) (a b c : Arr m) : Prop :=
  ∀ r : Fin m, Low3 x (N r) (a (ix2 r q)) (b (ix2 r q)) (c (ix2 r q))

/-- How many of the keys `r`, `128 + r`, …, `k` of them, are at most `x`. -/
def count (s : Arr 2048) (q : Fin 1024) (x : EReal) (k r : ℕ) : ℕ :=
  ∑ j ∈ Finset.range k, if colAt s q (j * 128 + r) ≤ x then 1 else 0

/-- A stretch of 128 keys read at a row. -/
theorem stretch_apply (s : Arr 2048) (q : Fin 1024) (r : Fin 128) (k o : ℕ) (ho : o = k * 128) (hk : k < 16)
    (hs : (⟨2, ![2048, 1024]⟩ : Shape).Slices ![o, 0] ⟨2, ![128, 1024]⟩) :
    extractStridedSlice ⟨2, ![128, 1024]⟩ ![o, 0] s hs (ix2 r q) = colAt s q (k * 128 + r) := by
  subst ho
  have hr := r.isLt
  have h : k * 128 + r.val < 2048 := by omega
  rw [colAt, dif_pos h]
  pointwise

/-- The first stretch, with fillers above the threshold. -/
theorem triple_one {x : EReal} {q : Fin 1024} (s : Arr 2048) (f : Arr 128) (hf : ∀ i, x < f i)
    (hs : (⟨2, ![2048, 1024]⟩ : Shape).Slices ![0, 0] ⟨2, ![128, 1024]⟩) :
    Triple x q (count s q x 1) (extractStridedSlice ⟨2, ![128, 1024]⟩ ![0, 0] s hs) f f := by
  intro r
  have e := stretch_apply s q r 0 0 (by norm_num) (by norm_num) hs
  rw [e]
  have c1 : count s q x 1 r = if colAt s q (0 * 128 + r) ≤ x then 1 else 0 := by
    rw [count, Finset.sum_range_one]
  rw [c1]
  obtain h := hf (ix2 r q)
  have := low3_one (x := x) (v := colAt s q (0 * 128 + r)) (f := f (ix2 r q)) h
  exact this

/-- One more stretch of keys taken into the triple, as the kernel takes it. -/
theorem triple_step {x : EReal} {q : Fin 1024} {s : Arr 2048} {a b c : Arr 128} (k o : ℕ) (ho : o = k * 128)
    (hk : k < 16) (hs : (⟨2, ![2048, 1024]⟩ : Shape).Slices ![o, 0] ⟨2, ![128, 1024]⟩)
    (h : Triple x q (count s q x k) a b c) :
    Triple x q (count s q x (k + 1)) (minimumf a (extractStridedSlice ⟨2, ![128, 1024]⟩ ![o, 0] s hs))
      (minimumf b (maximumf a (extractStridedSlice ⟨2, ![128, 1024]⟩ ![o, 0] s hs)))
      (minimumf c (maximumf b (maximumf a (extractStridedSlice ⟨2, ![128, 1024]⟩ ![o, 0] s hs)))) := by
  intro r
  have e := stretch_apply s q r k o ho hk hs
  have c1 : count s q x (k + 1) r = count s q x k r + if colAt s q (k * 128 + r) ≤ x then 1 else 0 := by
    rw [count, Finset.sum_range_succ]; rfl
  rw [c1]
  have := low3_insert (v := extractStridedSlice ⟨2, ![128, 1024]⟩ ![o, 0] s hs (ix2 r q)) (h r)
  rw [← e]
  exact this

/-- The lower half of the rows, read at a row. -/
theorem half_apply {m : ℕ} (a : Arr (m + m)) (q : Fin 1024) (r : Fin m) (o : ℕ) (ho : o ≤ m)
    (hs : (⟨2, ![m + m, 1024]⟩ : Shape).Slices ![o, 0] ⟨2, ![m, 1024]⟩) :
    extractStridedSlice ⟨2, ![m, 1024]⟩ ![o, 0] a hs (ix2 r q) = a (ix2 ⟨o + r, by have := r.isLt; omega⟩ q) := by
  refine congrArg a (funext fun i => ?_)
  match i with
  | ⟨0, _⟩ => rfl
  | ⟨1, _⟩ => exact Fin.ext (Nat.zero_add _)

/-- Folding the rows in half, as the kernel does it. -/
theorem triple_fold {x : EReal} {q : Fin 1024} {N : ℕ → ℕ} (m : ℕ) {a b c : Arr (m + m)}
    (h0 : (⟨2, ![m + m, 1024]⟩ : Shape).Slices ![0, 0] ⟨2, ![m, 1024]⟩)
    (h1 : (⟨2, ![m + m, 1024]⟩ : Shape).Slices ![m, 0] ⟨2, ![m, 1024]⟩)
    (h : Triple x q N a b c) :
    Triple (m := m) x q (fold m N)
      (minimumf (extractStridedSlice ⟨2, ![m, 1024]⟩ ![0, 0] a h0) (extractStridedSlice ⟨2, ![m, 1024]⟩ ![m, 0] a h1))
      (minimumf
        (maximumf (extractStridedSlice ⟨2, ![m, 1024]⟩ ![0, 0] a h0) (extractStridedSlice ⟨2, ![m, 1024]⟩ ![m, 0] a h1))
        (minimumf (extractStridedSlice ⟨2, ![m, 1024]⟩ ![0, 0] b h0) (extractStridedSlice ⟨2, ![m, 1024]⟩ ![m, 0] b h1)))
      (minimumf
        (maximumf
          (maximumf (extractStridedSlice ⟨2, ![m, 1024]⟩ ![0, 0] a h0) (extractStridedSlice ⟨2, ![m, 1024]⟩ ![m, 0] a h1))
          (minimumf (extractStridedSlice ⟨2, ![m, 1024]⟩ ![0, 0] b h0) (extractStridedSlice ⟨2, ![m, 1024]⟩ ![m, 0] b h1)))
        (minimumf (extractStridedSlice ⟨2, ![m, 1024]⟩ ![0, 0] c h0) (extractStridedSlice ⟨2, ![m, 1024]⟩ ![m, 0] c h1))) := by
  intro r
  have hr := r.isLt
  have g0 := h ⟨r, by omega⟩
  have g1 := h ⟨m + r, by omega⟩
  have key := low3_merge g0 g1
  have ix : (⟨0 + r.val, by omega⟩ : Fin (m + m)) = ⟨r, by omega⟩ := Fin.ext (Nat.zero_add _)
  have ea0 := half_apply a q r 0 (by omega) h0
  have eb0 := half_apply b q r 0 (by omega) h0
  have ec0 := half_apply c q r 0 (by omega) h0
  have ea1 := half_apply a q r m le_rfl h1
  have eb1 := half_apply b q r m le_rfl h1
  have ec1 := half_apply c q r m le_rfl h1
  rw [ix] at ea0 eb0 ec0
  rw [← ea0, ← eb0, ← ec0, ← ea1, ← eb1, ← ec1] at key
  exact key

end Cert.Rows

end
-- ==== Proof.Select.lean ====
/- The kernel's own minima and maxima read as the steps of Proof/Rows.lean: the sixteen stretches of 128 keys, then the
   seven foldings of 128 rows down to one. At the end the three rows the kernel keeps hold, in every query column, the
   three smallest masked distances. -/
module

public import proofs.«01_k».proof.Proof.Rows
public import proofs.«01_k».proof.Proof.Gen.KernelIdeal.Frame

@[expose] public section

set_option maxRecDepth 16384

noncomputable section

namespace Cert.Select

open Idealize.ShloMosaic Cert.KernelIdeal Cert.KernelIdeal.Gen Cert.Network Cert.Rows

section early

variable {x : EReal} {q : Fin 1024} (v : FVec Ideal S2048x1024 .f32) (e : Ideal .f32) (w : IVec S2048x1024 1)

/-- The first ten stretches. -/
theorem ten_stretches (hx : x < Scalar.ofBits (F := Ideal) .f32 0x41C80000#32) :
    Triple x q (count (k0_pay5 v e w) q x 10) (k0_pay43 v e w) (k0_pay45 v e w)
      (minimumf (k0_pay40 v e w) (k0_pay44 v e w)) := by
  have t1 : Triple x q (count (k0_pay5 v e w) q x 1) (k0_pay6 v e w) k0_pay7 k0_pay7 :=
    triple_one (k0_pay5 v e w) (k0_pay7 (F := Ideal)) (fun _ => hx) slices_S2048x1024_o0_0_S128x1024
  have t2 : Triple x q (count (k0_pay5 v e w) q x 2) (k0_pay10 v e w) (k0_pay11 v e w) _ :=
    triple_step 1 128 rfl (by decide) slices_S2048x1024_o128_0_S128x1024 t1
  have t3 : Triple x q (count (k0_pay5 v e w) q x 3) (k0_pay14 v e w) (k0_pay15 v e w) _ :=
    triple_step 2 256 rfl (by decide) slices_S2048x1024_o256_0_S128x1024 t2
  have t4 : Triple x q (count (k0_pay5 v e w) q x 4) (k0_pay18 v e w) (k0_pay19 v e w) _ :=
    triple_step 3 384 rfl (by decide) slices_S2048x1024_o384_0_S128x1024 t3
  have t5 : Triple x q (count (k0_pay5 v e w) q x 5) (k0_pay22 v e w) (k0_pay23 v e w) _ :=
    triple_step 4 512 rfl (by decide) slices_S2048x1024_o512_0_S128x1024 t4
  have t6 : Triple x q (count (k0_pay5 v e w) q x 6) (k0_pay26 v e w) (k0_pay27 v e w) _ :=
    triple_step 5 640 rfl (by decide) slices_S2048x1024_o640_0_S128x1024 t5
  have t7 : Triple x q (count (k0_pay5 v e w) q x 7) (k0_pay30 v e w) (k0_pay31 v e w) _ :=
    triple_step 6 768 rfl (by decide) slices_S2048x1024_o768_0_S128x1024 t6
  have t8 : Triple x q (count (k0_pay5 v e w) q x 8) (k0_pay34 v e w) (k0_pay35 v e w) _ :=
    triple_step 7 896 rfl (by decide) slices_S2048x1024_o896_0_S128x1024 t7
  have t9 : Triple x q (count (k0_pay5 v e w) q x 9) (k0_pay38 v e w) (k0_pay39 v e w) _ :=
    triple_step 8 1024 rfl (by decide) slices_S2048x1024_o1024_0_S128x1024 t8
  exact triple_step 9 1152 rfl (by decide) slices_S2048x1024_o1152_0_S128x1024 t9

end early

section late

variable {x : EReal} {q : Fin 1024} (s : FVec Ideal S2048x1024 .f32) (a b c d : FVec Ideal S128x1024 .f32)

/-- The six later stretches and the first two foldings: from the triple after ten stretches to thirty-two rows. -/
theorem to_32_rows (h : Triple x q (count s q x 10) b d (minimumf a c)) :
    Triple x q (fold 32 (fold 64 (count s q x 16))) (k0_pay79 s b) (k0_pay82 s b d)
      (minimumf (maximumf (k0_pay80 s b) (k0_pay81 s b d)) (minimumf (k0_pay77 s a b c d) (k0_pay78 s a b c d))) := by
  have t11 : Triple x q (count s q x 11) (k0_pay48 s b) (k0_pay49 s b d) _ :=
    triple_step 10 1280 rfl (by decide) slices_S2048x1024_o1280_0_S128x1024 h
  have t12 : Triple x q (count s q x 12) (k0_pay52 s b) (k0_pay53 s b d) _ :=
    triple_step 11 1408 rfl (by decide) slices_S2048x1024_o1408_0_S128x1024 t11
  have t13 : Triple x q (count s q x 13) (k0_pay56 s b) (k0_pay57 s b d) _ :=
    triple_step 12 1536 rfl (by decide) slices_S2048x1024_o1536_0_S128x1024 t12
  have t14 : Triple x q (count s q x 14) (k0_pay60 s b) (k0_pay61 s b d) _ :=
    triple_step 13 1664 rfl (by decide) slices_S2048x1024_o1664_0_S128x1024 t13
  have t15 : Triple x q (count s q x 15) (k0_pay64 s b) (k0_pay65 s b d) _ :=
    triple_step 14 1792 rfl (by decide) slices_S2048x1024_o1792_0_S128x1024 t14
  have t16 : Triple x q (count s q x 16) (k0_pay68 s b) (minimumf (k0_pay65 s b d) (k0_pay67 s b)) _ :=
    triple_step 15 1920 rfl (by decide) slices_S2048x1024_o1920_0_S128x1024 t15
  have t64 : Triple (m := 64) x q (fold 64 (count s q x 16)) (k0_pay71 s b) (minimumf (k0_pay72 s b) (k0_pay73 s b d))
      (k0_pay74 s a b c d) :=
    triple_fold 64 slices_S128x1024_o0_0_S64x1024 slices_S128x1024_o64_0_S64x1024 t16
  exact triple_fold 32 slices_S64x1024_o0_0_S32x1024 slices_S64x1024_o32_0_S32x1024 t64

end late

section last

variable {x : EReal} {q : Fin 1024} {N : ℕ → ℕ} (a b c d e f : FVec Ideal S32x1024 .f32)

/-- The four foldings from thirty-two rows down to two. -/
theorem to_2_rows (hf : f = minimumf d e)
    (h : Triple x q N c f (minimumf (maximumf d e) (minimumf a b))) :
    Triple (m := 2) x q (fold 2 (fold 4 (fold 8 (fold 16 N)))) (k0_pay100 c) (k0_pay103 c f)
      (k0_pay104 a b c d e f) := by
  have t16 : Triple (m := 16) x q (fold 16 N) (k0_pay85 c) (minimumf (k0_pay86 c) (k0_pay87 f)) _ :=
    triple_fold 16 slices_S32x1024_o0_0_S16x1024 slices_S32x1024_o16_0_S16x1024 h
  have t8 : Triple (m := 8) x q (fold 8 (fold 16 N)) (k0_pay90 c) (minimumf (k0_pay91 c) (k0_pay92 c f)) _ :=
    triple_fold 8 slices_S16x1024_o0_0_S8x1024 slices_S16x1024_o8_0_S8x1024 t16
  have t4 : Triple (m := 4) x q (fold 4 (fold 8 (fold 16 N))) (k0_pay95 c) (minimumf (k0_pay96 c) (k0_pay97 c f)) _ :=
    triple_fold 4 slices_S8x1024_o0_0_S4x1024 slices_S8x1024_o4_0_S4x1024 t8
  exact triple_fold 2 slices_S4x1024_o0_0_S2x1024 slices_S4x1024_o2_0_S2x1024 t4

/-- The last folding: from two rows to the three rows the kernel keeps. -/
theorem to_1_row
    (h : Triple (m := 2) x q N (k0_pay100 c) (k0_pay103 c f) (k0_pay104 a b c d e f)) :
    Triple (m := 1) x q (fold 1 N) (k0_pay110 (k0_pay105 c) (k0_pay106 c))
      (k0_pay113 (k0_pay105 c) (k0_pay106 c) (k0_pay107 c f) (k0_pay108 c f))
      (k0_pay114 (k0_pay104 a b c d e f) (k0_pay105 c) (k0_pay106 c) (k0_pay107 c f) (k0_pay108 c f)
        (k0_pay109 a b c d e f)) :=
  triple_fold 1 slices_S2x1024_o0_0_S1x1024 slices_S2x1024_o1_0_S1x1024 h

end last

/-- The seven foldings count every key once. -/
theorem fold_all (s : FVec Ideal S2048x1024 .f32) (q : Fin 1024) (x : EReal) :
    fold 1 (fold 2 (fold 4 (fold 8 (fold 16 (fold 32 (fold 64 (count s q x 16))))))) 0
      = (Finset.univ.filter fun i : Fin 2048 => s (ix2 i q) ≤ x).card := by
  have h (N : ℕ → ℕ) : fold 1 N 0 = ∑ r ∈ Finset.range 1, fold 1 N r := (Finset.sum_range_one _).symm
  rw [h, sum_fold, sum_fold, sum_fold, sum_fold, sum_fold, sum_fold, sum_fold]
  unfold Rows.count
  rw [sum_chunks 128 16 fun i => if colAt s q i ≤ x then 1 else 0, Finset.card_filter,
    ← Fin.sum_univ_eq_sum_range (fun i => if colAt s q i ≤ x then 1 else 0) 2048]
  refine Finset.sum_congr rfl fun i _ => ?_
  rw [colAt, dif_pos i.isLt]

section kept

variable (x0 x1 x2 : Vec Ideal S1x2048x1 .f32) (x3 x4 x5 : Vec Ideal S1x1x1x1024 .f32) (x6 : Vec Ideal S1x2048x32 .f32)
  (x7 : Vec Ideal S1x2048x1 .f32)

/-- The first of the three rows the kernel keeps. -/
def row1 : FVec Ideal S1x1024 .f32 := k0_pay110 (k0_pay136 x0 x1 x2 x3 x4 x5 x6 x7) (k0_pay137 x0 x1 x2 x3 x4 x5 x6 x7)
/-- The second of the three rows the kernel keeps. -/
def row2 : FVec Ideal S1x1024 .f32 := k0_pay113 (k0_pay136 x0 x1 x2 x3 x4 x5 x6 x7) (k0_pay137 x0 x1 x2 x3 x4 x5 x6 x7)
  (k0_pay138 x0 x1 x2 x3 x4 x5 x6 x7) (k0_pay139 x0 x1 x2 x3 x4 x5 x6 x7)
/-- The third of the three rows the kernel keeps. -/
def row3 : FVec Ideal S1x1024 .f32 := k0_pay114 (k0_pay135 x0 x1 x2 x3 x4 x5 x6 x7) (k0_pay136 x0 x1 x2 x3 x4 x5 x6 x7)
  (k0_pay137 x0 x1 x2 x3 x4 x5 x6 x7) (k0_pay138 x0 x1 x2 x3 x4 x5 x6 x7) (k0_pay139 x0 x1 x2 x3 x4 x5 x6 x7)
  (k0_pay140 x0 x1 x2 x3 x4 x5 x6 x7)

/-- In every query column the three kept rows hold the three smallest masked distances, as a counting statement below
    the filler. -/
theorem kept (q : Fin 1024) (x : EReal) (hx : x < Scalar.ofBits (F := Ideal) .f32 0x41C80000#32) :
    Low3 x (Finset.univ.filter fun i : Fin 2048 => k0_pay124 x0 x1 x2 x3 x4 x5 x6 x7 (ix2 i q) ≤ x).card
      (row1 x0 x1 x2 x3 x4 x5 x6 x7 (ix2 0 q)) (row2 x0 x1 x2 x3 x4 x5 x6 x7 (ix2 0 q))
      (row3 x0 x1 x2 x3 x4 x5 x6 x7 (ix2 0 q)) := by
  have t10 := ten_stretches (x := x) (q := q) (k0_pay122 x0 x1 x2 x3 x4 x5 x6 x7) (Scalar.ofBits .f32 0x41100000#32)
    (k0_pay123 x0 x1 x2 x3 x4 x5 x6 x7) hx
  have t32 := to_32_rows _ _ _ _ _ t10
  have t2 := to_2_rows (k0_pay129 x0 x1 x2 x3 x4 x5 x6 x7) (k0_pay130 x0 x1 x2 x3 x4 x5 x6 x7)
    (k0_pay131 x0 x1 x2 x3 x4 x5 x6 x7) (k0_pay132 x0 x1 x2 x3 x4 x5 x6 x7) (k0_pay133 x0 x1 x2 x3 x4 x5 x6 x7)
    (k0_pay134 x0 x1 x2 x3 x4 x5 x6 x7) rfl t32
  have t1 := to_1_row _ _ _ _ _ _ t2
  rw [← fold_all]
  exact t1 0

end kept

end Cert.Select

end
-- ==== Proof.Block.lean ====
/- What one grid point computes from its blocks, entry by entry: the masked squared chords, the distances and weights of
   the three kept rows, and the two output blocks. -/
module

public import proofs.«01_k».proof.Proof.Geometry
public import proofs.«01_k».proof.Proof.Nearest
public import proofs.«01_k».proof.Proof.Consts
public import proofs.«01_k».proof.Proof.Select
public import Idealize.ShloMosaic.Lib.Pipeline.Value
public import Idealize.ShloMosaic.Lib.Pointwise

@[expose] public section

set_option maxRecDepth 16384

noncomputable section

namespace Cert.Block

open Idealize.ShloMosaic Cert.KernelIdeal Cert.KernelIdeal.Gen Cert.Geometry Cert.Nearest Cert.Consts Cert.Select Cert.Network

variable (x0 x1 x2 : Vec Ideal S1x2048x1 .f32) (x3 x4 x5 : Vec Ideal S1x1x1x1024 .f32) (x6 : Vec Ideal S1x2048x32 .f32)
  (x7 : Vec Ideal S1x2048x1 .f32)

/-- The masked squared chord between key `i` and query `q` of a block. -/
def blockS (i : Fin 2048) (q : Fin 1024) : EReal :=
  if 0 < x7 (ix3 0 i 0) then
    (x0 (ix3 0 i 0) - x3 (ix4 0 0 0 q)) * (x0 (ix3 0 i 0) - x3 (ix4 0 0 0 q))
      + (x1 (ix3 0 i 0) - x4 (ix4 0 0 0 q)) * (x1 (ix3 0 i 0) - x4 (ix4 0 0 0 q))
      + (x2 (ix3 0 i 0) - x5 (ix4 0 0 0 q)) * (x2 (ix3 0 i 0) - x5 (ix4 0 0 0 q))
  else ((9 : ℝ) : EReal)

/-- What the kernel's table of masked squared chords holds. -/
theorem masked_apply (i : Fin 2048) (q : Fin 1024) :
    k0_pay124 x0 x1 x2 x3 x4 x5 x6 x7 (ix2 i q) = blockS x0 x1 x2 x3 x4 x5 x7 i q := by
  unfold k0_pay124 k0_pay123 k0_pay122 blockS
  pointwise [k0_pay5, k0_pay4, k0_pay3]
  rw [ofBits_9]

/-- The angle at a squared chord, as the kernel writes it. -/
theorem chord_step (s : EReal) :
    Ideal.ofBits .f32 0x40000000#32 *
      Ideal.atan2 (Ideal.sqrt (min 1 (max 0 (s * Ideal.ofBits .f32 0x3E800000#32))))
        (Ideal.sqrt (1 - min 1 (max 0 (s * Ideal.ofBits .f32 0x3E800000#32)))) = chordDist s := by
  rw [ofBits_2, ofBits_quarter, chordDist, EReal.coe_one]

/-- The kernel's first distance is the angle at the first kept row. -/
theorem d1_apply (q : Fin 1024) (a b : FVec Ideal S1x1024 .f32) :
    k0_pay115 a b (ix2 0 q) = chordDist (k0_pay110 a b (ix2 0 q)) := by
  rw [← chord_step]
  pointwise [k0_pay115]

/-- The kernel's second distance is the angle at the second kept row. -/
theorem d2_apply (q : Fin 1024) (a b c d : FVec Ideal S1x1024 .f32) :
    k0_pay117 a b c d (ix2 0 q) = chordDist (k0_pay113 a b c d (ix2 0 q)) := by
  rw [← chord_step]
  pointwise [k0_pay117]

/-- The kernel's third distance is the angle at the third kept row. -/
theorem d3_apply (q : Fin 1024) (z : FVec Ideal S2x1024 .f32) (a b c d e : FVec Ideal S1x1024 .f32) :
    k0_pay120 (k0_pay119 z a b c d e) (Scalar.ofBits .f32 0x00000000#32) (ix2 0 q)
      = chordDist (k0_pay114 z a b c d e (ix2 0 q)) := by
  rw [← chord_step]
  pointwise [k0_pay120, k0_pay119]

/-- The inverse distance at a squared chord. -/
def pull (s : EReal) : EReal := Ideal.div 1 (chordDist s + Ideal.ofBits .f32 0x358637BD#32)

/-- The kernel's first inverse distance is the one at the first kept row. -/
theorem w1_apply (q : Fin 1024) (a b : FVec Ideal S1x1024 .f32) :
    k0_pay116 a b (ix2 0 q) = pull (k0_pay110 a b (ix2 0 q)) := by
  rw [pull, ← d1_apply]
  pointwise [k0_pay116]

/-- The kernel's second inverse distance is the one at the second kept row. -/
theorem w2_apply (q : Fin 1024) (a b c d : FVec Ideal S1x1024 .f32) :
    k0_pay118 a b c d (ix2 0 q) = pull (k0_pay113 a b c d (ix2 0 q)) := by
  rw [pull, ← d2_apply]
  pointwise [k0_pay118]

/-- The second output from the three distances: one less the mean of their negative exponentials. -/
theorem spread_apply (q : Fin 1024) (a b c : FVec Ideal S1x1024 .f32) :
    k0_pay2 a b c (ix4 0 0 0 q) = 1 -
      (Ideal.exp (0 - a (ix2 0 q)) + Ideal.exp (0 - b (ix2 0 q)) + Ideal.exp (0 - c (ix2 0 q))) * ((1 / 3 : ℝ) : EReal) := by
  pointwise [k0_pay2]
  rfl

/-- The weight of a key whose squared chord is `s`, when the three smallest are `a`, `b`, `c`. -/
def weight (a b c s : EReal) : EReal :=
  if s = a then Ideal.div (pull a) (pull a + pull b + pull c)
  else if s = b then Ideal.div (pull b) (pull a + pull b + pull c)
  else if s = c then Ideal.div (pull c) (pull a + pull b + pull c)
  else 0

/-- The two products over the keys: the features, and what is left of them after rounding. -/
theorem mix_apply (e : Fin 32) (q : Fin 1024) (s : FVec Ideal S2048x1024 .f32) (a b c u v w : FVec Ideal S1x1024 .f32)
    (z : EReal) (y : Vec Ideal S1x2048x32 .f32) (hu : u (ix2 0 q) = pull (a (ix2 0 q))) (hv : v (ix2 0 q) = pull (b (ix2 0 q)))
    (hw : k0_pay120 w z (ix2 0 q) = chordDist (c (ix2 0 q))) :
    k0_pay1 (k0_pay121 s a b c u v w z y) (ix3 0 e q)
      = ∑ i : Fin 2048, y (ix3 0 i e) * weight (a (ix2 0 q)) (b (ix2 0 q)) (c (ix2 0 q)) (s (ix2 i q))
        + ∑ i : Fin 2048, (y (ix3 0 i e) - y (ix3 0 i e)) * weight (a (ix2 0 q)) (b (ix2 0 q)) (c (ix2 0 q)) (s (ix2 i q)) := by
  unfold weight
  rw [← hu, ← hv, pull, ← hw]
  pointwise [k0_pay1, k0_pay121]

/-- The second output's block, at a query. -/
theorem out9_apply (q : Fin 1024) : out0_9 x0 x1 x2 x3 x4 x5 x6 x7 (ix4 0 0 0 q)
    = 1 - (Ideal.exp (0 - chordDist (row1 x0 x1 x2 x3 x4 x5 x6 x7 (ix2 0 q)))
      + Ideal.exp (0 - chordDist (row2 x0 x1 x2 x3 x4 x5 x6 x7 (ix2 0 q)))
      + Ideal.exp (0 - chordDist (row3 x0 x1 x2 x3 x4 x5 x6 x7 (ix2 0 q)))) * ((1 / 3 : ℝ) : EReal) := by
  unfold out0_9 k0_pay141
  rw [View.canon_unit_zero (by funext a; fin_cases a <;> rfl), spread_apply, d1_apply, d2_apply, d3_apply]
  rfl

/-- The first output's block, at a channel and a query. -/
theorem out8_apply (e : Fin 32) (q : Fin 1024) : out0_8 x0 x1 x2 x3 x4 x5 x6 x7 (ix3 0 e q)
    = (fun W : Fin 2048 → EReal => ∑ i : Fin 2048, x6 (ix3 0 i e) * W i + ∑ i : Fin 2048, (x6 (ix3 0 i e) - x6 (ix3 0 i e)) * W i)
      fun i => weight (row1 x0 x1 x2 x3 x4 x5 x6 x7 (ix2 0 q)) (row2 x0 x1 x2 x3 x4 x5 x6 x7 (ix2 0 q))
        (row3 x0 x1 x2 x3 x4 x5 x6 x7 (ix2 0 q)) (blockS x0 x1 x2 x3 x4 x5 x7 i q) := by
  unfold out0_8 k0_pay141
  rw [View.canon_unit_zero (by funext a; fin_cases a <;> rfl), View.ld_unit_zero (by funext a; fin_cases a <;> rfl),
    mix_apply e q _ _ _ _ _ _ _ _ _ (w1_apply q _ _) (w2_apply q _ _ _ _) (d3_apply q _ _ _ _ _ _)]
  simp only [masked_apply]
  rfl

/-- In every query column the three kept rows hold the three smallest masked squared chords. -/
theorem kept_block (q : Fin 1024) (x : EReal) (hx : x < ((25 : ℝ) : EReal)) :
    Low3 x (Finset.univ.filter fun i : Fin 2048 => blockS x0 x1 x2 x3 x4 x5 x7 i q ≤ x).card
      (row1 x0 x1 x2 x3 x4 x5 x6 x7 (ix2 0 q)) (row2 x0 x1 x2 x3 x4 x5 x6 x7 (ix2 0 q))
      (row3 x0 x1 x2 x3 x4 x5 x6 x7 (ix2 0 q)) := by
  have h := kept x0 x1 x2 x3 x4 x5 x6 x7 q x (hx.trans_eq ofBits_25.symm)
  simp only [masked_apply] at h
  exact h

end Cert.Block

end
-- ==== Proof.Ref.lean ====
/- What the reference computes. Its two results are named step by step - the table of distances, the three selected
   keys, their inverse distances, the gather of their features - and then read at an entry. -/
module

public import proofs.«01_k».proof.Proof.Geometry
public import proofs.«01_k».proof.Proof.Nearest
public import proofs.«01_k».proof.Proof.Consts
public import proofs.«01_k».proof.Proof.Gen.ReferenceIdeal.Run
public import Idealize.ShloMosaic.Lib.Pointwise

@[expose] public section

set_option maxRecDepth 16384

noncomputable section

namespace Cert.Ref

open Idealize.ShloMosaic Cert.ReferenceIdeal Cert.ReferenceIdeal.Gen Cert.Geometry Cert.Nearest Cert.Consts

variable (a0 : FVec Ideal S2x1x2048x1x32 .f32) (a1 a2 : FVec Ideal S2x1x2048x1x2 .f32) (a3 : IVec S2x1x2048x1 1)

/-- One coordinate of every key, spread over the queries. -/
def keyCol (o : Fin 3 → ℕ) (h : S2x2048x2.Slices o S2x2048x1) : FVec Ideal S2x1x2048 .f32 :=
  broadcastInDim S2x1x2048 ![0, 2] bcast_S2x2048_S2x1x2048_0_2
    (shapeCast S2x2048 (extractStridedSlice S2x2048x1 o
      (shapeCast S2x2048x2 a1 shapeCasts_S2x1x2048x1x2_S2x2048x2) h) shapeCasts_S2x2048x1_S2x2048)

/-- One coordinate of every query, spread over the keys. -/
def queryCol (o : Fin 3 → ℕ) (h : S2x2048x2.Slices o S2x2048x1) : FVec Ideal S2x2048x1 .f32 :=
  broadcastInDim S2x2048x1 ![0, 1] bcast_S2x2048_S2x2048x1_0_1
    (shapeCast S2x2048 (extractStridedSlice S2x2048x1 o
      (shapeCast S2x2048x2 a2 shapeCasts_S2x1x2048x1x2_S2x2048x2) h) shapeCasts_S2x2048x1_S2x2048)

/-- A number at every query and key. -/
abbrev fill (p : BitVec 32) : FVec Ideal S2x2048x2048 .f32 :=
  broadcastInDim S2x2048x2048 ![] bcast_S_S2x2048x2048 (constant S_ .f32 p)

/-- The sine of half the difference of one coordinate, between every query and every key. -/
def sinHalf (o : Fin 3 → ℕ) (h : S2x2048x2.Slices o S2x2048x1) : FVec Ideal S2x2048x2048 .f32 :=
  Host.sin (Host.divf
    (subf (broadcastInDim S2x2048x2048 ![0, 1, 2] bcast_S2x1x2048_S2x2048x2048_0_1_2 (keyCol a1 o h))
      (broadcastInDim S2x2048x2048 ![0, 1, 2] bcast_S2x2048x1_S2x2048x2048_0_1_2 (queryCol a2 o h)))
    (fill 0x40000000#32))

/-- The reference's table of distances, query by key, with the keys outside the mask far away. -/
def table : FVec Ideal S2x2048x2048 .f32 :=
  select
    (broadcastInDim S2x2048x2048 ![0, 1, 2] bcast_S2x1x2048_S2x2048x2048_0_1_2
      (broadcastInDim S2x1x2048 ![0, 2] bcast_S2x2048_S2x1x2048_0_2 (shapeCast S2x2048 a3 shapeCasts_S2x1x2048x1_S2x2048)))
    (mulf (fill 0x40000000#32) (Host.asin (Host.sqrt (minimumf (fill 0x3F800000#32) (maximumf (fill 0x00000000#32)
      (addf
        (mulf (sinHalf a1 a2 ![0, 0, 0] slices_S2x2048x2_S2x2048x1_0_0_0) (sinHalf a1 a2 ![0, 0, 0] slices_S2x2048x2_S2x2048x1_0_0_0))
        (mulf
          (mulf
            (broadcastInDim S2x2048x2048 ![0, 1, 2] bcast_S2x2048x1_S2x2048x2048_0_1_2 (Host.cos (queryCol a2 ![0, 0, 0] slices_S2x2048x2_S2x2048x1_0_0_0)))
            (broadcastInDim S2x2048x2048 ![0, 1, 2] bcast_S2x1x2048_S2x2048x2048_0_1_2 (Host.cos (keyCol a1 ![0, 0, 0] slices_S2x2048x2_S2x2048x1_0_0_0))))
          (mulf (sinHalf a1 a2 ![0, 0, 1] slices_S2x2048x2_S2x2048x1_0_0_1) (sinHalf a1 a2 ![0, 0, 1] slices_S2x2048x2_S2x2048x1_0_0_1)))))))))
    (fill 0x4E6E6B28#32)

/-- The distances of the selected keys. -/
def near : FVec Ideal S2x2048x3 .f32 :=
  Host.negf (Host.topK S2x2048x3 2 (FloatOps.cmpfTotal .gt) (Host.negf (table a1 a2 a3)) sliceFits_S2x2048x2048_S2x2048x3).1

/-- The positions of the selected keys. -/
def place : IVec S2x2048x3 32 :=
  (Host.topK S2x2048x3 2 (FloatOps.cmpfTotal .gt) (Host.negf (table a1 a2 a3)) sliceFits_S2x2048x2048_S2x2048x3).2

/-- The second result, as its operations on the distances of the selected keys. -/
theorem density_eq (m : (ℓ : Loc nD τ sig) → Buf (Elt Ideal) ℓ) (c : Dev nD) :
    Value.res_main_v73 (F := Ideal) m c
      = shapeCast S2x1x2048 (subf (broadcastInDim S2x2048 ![] bcast_S_S2x2048 (constant S_ .f32 0x3F800000#32))
          (Host.divf (Host.reduceAdd (Host.exp (Host.negf
              (near (m ((c.tc : Thread nD τ).loc main_arg1)) (m ((c.tc : Thread nD τ).loc main_arg2))
                (m ((c.tc : Thread nD τ).loc main_arg3)))))
              (constant S_ .f32 0x00000000#32) reducesTo_S2x2048x3_S2x2048_d2 h_S_)
            (broadcastInDim S2x2048 ![] bcast_S_S2x2048 (constant S_ .f32 0x40400000#32)))) shapeCasts_S2x2048_S2x1x2048 := by
  unfold Value.res_main_v73
  rfl

/-- The inverse distances of the selected keys. -/
def inv : FVec Ideal S2x2048x3 .f32 :=
  Host.divf (broadcastInDim S2x2048x3 ![] bcast_S_S2x2048x3 (constant S_ .f32 0x3F800000#32))
    (addf (near a1 a2 a3) (broadcastInDim S2x2048x3 ![] bcast_S_S2x2048x3 (constant S_ .f32 0x358637BD#32)))

/-- The positions as the gather takes them: none is negative, so none is moved. -/
def start : IVec S2x2048x3x1 32 :=
  broadcastInDim S2x2048x3x1 ![0, 1, 2] bcast_S2x2048x3_S2x2048x3x1_0_1_2
    (select (cmpi .slt (place a1 a2 a3) (broadcastInDim S2x2048x3 ![] bcast_S_S2x2048x3 (constantI S_ 32 0#32)))
      (addi (place a1 a2 a3) (broadcastInDim S2x2048x3 ![] bcast_S_S2x2048x3 (constantI S_ 32 2048#32))) (place a1 a2 a3))

/-- The first result, as its operations on the inverse distances and positions of the selected keys. -/
theorem interp_eq (m : (ℓ : Loc nD τ sig) → Buf (Elt Ideal) ℓ) (c : Dev nD) :
    Value.res_main_v70 (F := Ideal) m c
      = (fun a0 a1 a2 a3 => shapeCast S2x1x2048x32 (Host.reduceAdd (mulf
            (broadcastInDim S2x2048x3x32 ![0, 1, 2, 3] bcast_S2x2048x3x1_S2x2048x3x32_0_1_2_3
              (broadcastInDim S2x2048x3x1 ![0, 1, 2] bcast_S2x2048x3_S2x2048x3x1_0_1_2
                (Host.divf (inv a1 a2 a3)
                  (broadcastInDim S2x2048x3 ![0, 1, 2] bcast_S2x2048x1_S2x2048x3_0_1_2
                    (broadcastInDim S2x2048x1 ![0, 1] bcast_S2x2048_S2x2048x1_0_1
                      (Host.reduceAdd (inv a1 a2 a3) (constant S_ .f32 0x00000000#32) reducesTo_S2x2048x3_S2x2048_d2 h_S_))))))
            (Host.gather gather_S2x2048x32_S2x2048x3x1_S2x2048x3x32_3_1_0_0_1_3_1132
              (shapeCast S2x2048x32 a0 shapeCasts_S2x1x2048x1x32_S2x2048x32) (start a1 a2 a3)))
            (constant S_ .f32 0x00000000#32) reducesTo_S2x2048x3x32_S2x2048x32_d2 h_S_) shapeCasts_S2x2048x32_S2x1x2048x32)
        (m ((c.tc : Thread nD τ).loc main_arg0)) (m ((c.tc : Thread nD τ).loc main_arg1))
        (m ((c.tc : Thread nD τ).loc main_arg2)) (m ((c.tc : Thread nD τ).loc main_arg3)) := by
  unfold Value.res_main_v70
  rfl

/-- The table of distances, at a query and a key. -/
theorem table_apply (b : Fin 2) (q i : Fin 2048) :
    table a1 a2 a3 (ix3 b q i) = if a3 (ix4 b 0 i 0) = 1#1 then
      havDist (refHav (a2 (ix5 b 0 q 0 0)) (a2 (ix5 b 0 q 0 1)) (a1 (ix5 b 0 i 0 0)) (a1 (ix5 b 0 i 0 1)))
      else ((1000000000 : ℝ) : EReal) := by
  unfold havDist refHav
  pointwise [table, sinHalf, keyCol, queryCol, fill]
  rw [ofBits_2, ofBits_1e9, EReal.coe_one]
  rfl

/-- The places of the keys, nearest first. -/
def nearest (b : Fin 2) (q : Fin 2048) : Fin 2048 → Fin 2048 := order fun i => -table a1 a2 a3 (ix3 b q i)

/-- The selected distances are those at the first three places of the order. -/
theorem near_apply (b : Fin 2) (q : Fin 2048) (k : Fin 3) :
    near a1 a2 a3 (ix3 b q k) = table a1 a2 a3 (ix3 b q (nearest a1 a2 a3 b q (k.castLE (by decide)))) := by
  show -_ = _
  refine (congrArg Neg.neg (topK_value _ sliceFits_S2x2048x2048_S2x2048x3 (by decide) b q k)).trans ?_
  exact neg_neg _

/-- The selected positions are the first three places of the order. -/
theorem place_apply (b : Fin 2) (q : Fin 2048) (k : Fin 3) :
    place a1 a2 a3 (ix3 b q k) = BitVec.ofNat 32 (nearest a1 a2 a3 b q (k.castLE (by decide))).val :=
  topK_index _ sliceFits_S2x2048x2048_S2x2048x3 (by decide) b q k

/-- The word of a position is not negative. -/
theorem word_not_neg (n : Fin 2048) : IntOp.cmpi .slt (BitVec.ofNat 32 n.val) 0#32 = 0#1 := by
  revert n
  decide +kernel

/-- The positions as the gather takes them are the first three places of the order. -/
theorem start_apply (b : Fin 2) (q : Fin 2048) (k : Fin 3) (z : Fin 1) :
    start a1 a2 a3 (ix4 b q k z) = BitVec.ofNat 32 (nearest a1 a2 a3 b q (k.castLE (by decide))).val := by
  pointwise [start]
  rw [place_apply, word_not_neg]
  rfl

/-- The inverse distances, at a query and one of the three places. -/
theorem inv_apply (b : Fin 2) (q : Fin 2048) (k : Fin 3) :
    inv a1 a2 a3 (ix3 b q k)
      = Ideal.div 1 (table a1 a2 a3 (ix3 b q (nearest a1 a2 a3 b q (k.castLE (by decide)))) + Ideal.ofBits .f32 0x358637BD#32) := by
  rw [← near_apply]
  pointwise [inv]

/-- How the reference takes the rows at the places. -/
abbrev taken := gather_S2x2048x32_S2x2048x3x1_S2x2048x3x32_3_1_0_0_1_3_1132

/-- The gather reads the row at the position it is given, held within the array. -/
theorem take_apply (x : FVec Ideal S2x2048x32 .f32) (s : IVec S2x2048x3x1 32) (b : Fin 2) (q : Fin 2048) (k : Fin 3) (c : Fin 32) :
    Host.gather taken x s (ix4 b q k c)
      = x (ix3 b ⟨min (s (ix4 b q k 0)).toInt.toNat 2047, by omega⟩ c) := by
  unfold Host.gather
  congr 1
  funext a
  refine Fin.ext ?_
  show taken.start (ix4 b q k c) s a
    + taken.batchCoord (ix4 b q k c) a
    + taken.offCoord (ix4 b q k c) a = _
  have b1 : (1 : Fin 3) ∉ taken.operandBatchingDims := by decide
  have b2 : (2 : Fin 3) ∉ taken.operandBatchingDims := by decide
  have m2 : (2 : Fin 3) ∉ taken.startIndexMap := by decide
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ taken.operandBatchingDims from List.mem_singleton.mpr rfl)]
    rfl
  · rw [GatherDims.batchCoord_eq_zero _ _ _ b1,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ taken.startIndexMap from List.mem_singleton.mpr rfl)]
    refine congrArg (fun i => min (s i).toInt.toNat 2047) ?_
    funext b
    refine Fin.ext ?_
    match b with
    | ⟨0, _⟩ => rfl
    | ⟨1, _⟩ => rfl
    | ⟨2, _⟩ => rfl
    | ⟨3, _⟩ => rfl
  · rw [GatherDims.batchCoord_eq_zero _ _ _ b2]
    unfold GatherDims.start
    rw [dif_neg m2]
    simp only [Nat.zero_add, Nat.add_zero]
    rfl

/-- A position's word is within the array already. -/
theorem word_clamp (n : Fin 2048) : min (BitVec.ofNat 32 n.val).toInt.toNat 2047 = n.val := by
  revert n
  decide +kernel

/-- So the row read is the row at that position. -/
theorem clamp_eq (w : BitVec 32) (n : Fin 2048) (h : w = BitVec.ofNat 32 n.val) :
    (⟨min w.toInt.toNat 2047, by omega⟩ : Fin 2048) = n := by
  subst h
  exact Fin.ext (word_clamp n)

/-- The reference's second result, at a query. -/
theorem density_apply (m : (ℓ : Loc nD τ sig) → Buf (Elt Ideal) ℓ) (c : Dev nD) (b : Fin 2) (z : Fin 1) (q : Fin 2048) :
    Value.res_main_v73 (F := Ideal) m c (ix3 b z q)
      = (fun a1 a2 a3 => 1 - Ideal.div (∑ k : Fin 3,
          Ideal.exp (-table a1 a2 a3 (ix3 b q (nearest a1 a2 a3 b q (k.castLE (by decide)))))) (Ideal.ofBits .f32 0x40400000#32) : _ → _ → _ → EReal)
        (m ((c.tc : Thread nD τ).loc main_arg1)) (m ((c.tc : Thread nD τ).loc main_arg2))
        (m ((c.tc : Thread nD τ).loc main_arg3)) := by
  rw [density_eq]
  simp only [← near_apply]
  generalize near _ _ _ = d
  pointwise []

/-- The features with the two unit axes dropped. -/
theorem rows_apply (a0 : FVec Ideal S2x1x2048x1x32 .f32) (b : Fin 2) (n : Fin 2048) (e : Fin 32) :
    shapeCast S2x2048x32 a0 shapeCasts_S2x1x2048x1x32_S2x2048x32 (ix3 b n e) = a0 (ix5 b 0 n 0 e) := by
  pointwise []

/-- The features the reference takes for a query are those of the selected keys. -/
theorem feature_apply (a0 : FVec Ideal S2x1x2048x1x32 .f32) (b : Fin 2) (q : Fin 2048) (k : Fin 3) (e : Fin 32) :
    Host.gather taken (shapeCast S2x2048x32 a0 shapeCasts_S2x1x2048x1x32_S2x2048x32) (start a1 a2 a3) (ix4 b q k e)
      = a0 (ix5 b 0 (nearest a1 a2 a3 b q (k.castLE (by decide))) 0 e) := by
  rw [take_apply, clamp_eq _ _ (start_apply a1 a2 a3 b q k 0), rows_apply]

/-- The reference's first result, at a query and a channel. -/
theorem interp_apply (m : (ℓ : Loc nD τ sig) → Buf (Elt Ideal) ℓ) (c : Dev nD) (b : Fin 2) (z : Fin 1) (q : Fin 2048) (e : Fin 32) :
    Value.res_main_v70 (F := Ideal) m c (ix4 b z q e)
      = (fun a0 a1 a2 a3 => ∑ k : Fin 3, Ideal.div (inv a1 a2 a3 (ix3 b q k)) (∑ k : Fin 3, inv a1 a2 a3 (ix3 b q k))
          * a0 (ix5 b 0 (nearest a1 a2 a3 b q (k.castLE (by decide))) 0 e) : _ → _ → _ → _ → EReal)
        (m ((c.tc : Thread nD τ).loc main_arg0)) (m ((c.tc : Thread nD τ).loc main_arg1))
        (m ((c.tc : Thread nD τ).loc main_arg2)) (m ((c.tc : Thread nD τ).loc main_arg3)) := by
  rw [interp_eq]
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  dsimp only
  pointwise []
  simp only [feature_apply]

end Cert.Ref

end
-- ==== Proof.Pre.lean ====
/- The precondition, read entry by entry: real features and positions at the keys the mask keeps, real query positions,
   and at every query a third distance strictly below the fourth. -/
module

public import proofs.«01_k».proof.Proof.Ref
public import proofs.«01_k».proof.Proof.Gen.Pre_three_nearest
public import Idealize.ShloMosaic.Lib.Pointwise

@[expose] public section

set_option maxRecDepth 16384

noncomputable section

namespace Cert.Pre

open Idealize.ShloMosaic Cert.Ref Cert.Nearest Cert.Consts

open Cert.Pre_three_nearest Cert.Pre_three_nearest.Gen

variable (a0 : FVec Ideal S2x1x2048x1x32 .f32) (a1 a2 : FVec Ideal S2x1x2048x1x2 .f32) (a3 : IVec S2x1x2048x1 1)

/-- The condition on the features, as its operations. -/
theorem features_eq : (Pre_three_nearest.fn (F := Ideal) a0 a1 a2 a3).1
    = ori (broadcastInDim S2x2048x32 ![0, 1, 2] bcast_S2x2048x1_S2x2048x32_0_1_2
        (noti (broadcastInDim S2x2048x1 ![0, 1] bcast_S2x2048_S2x2048x1_0_1 (shapeCast S2x2048 a3 shapeCasts_S2x1x2048x1_S2x2048))))
      (cmpf .olt (Host.absf (shapeCast S2x2048x32 a0 shapeCasts_S2x1x2048x1x32_S2x2048x32))
        (broadcastInDim S2x2048x32 ![] bcast_S_S2x2048x32 (constant S_ .f32 0x7F800000#32))) := rfl

/-- The condition on the positions of the keys, as its operations. -/
theorem keys_eq : (Pre_three_nearest.fn (F := Ideal) a0 a1 a2 a3).2.1
    = ori (broadcastInDim S2x2048x2 ![0, 1, 2] bcast_S2x2048x1_S2x2048x2_0_1_2
        (noti (broadcastInDim S2x2048x1 ![0, 1] bcast_S2x2048_S2x2048x1_0_1 (shapeCast S2x2048 a3 shapeCasts_S2x1x2048x1_S2x2048))))
      (cmpf .olt (Host.absf (shapeCast S2x2048x2 a1 shapeCasts_S2x1x2048x1x2_S2x2048x2))
        (broadcastInDim S2x2048x2 ![] bcast_S_S2x2048x2 (constant S_ .f32 0x7F800000#32))) := rfl

/-- The condition on the positions of the queries, as its operations. -/
theorem queries_eq : (Pre_three_nearest.fn (F := Ideal) a0 a1 a2 a3).2.2.1
    = cmpf .olt (Host.absf (shapeCast S2x2048x2 a2 shapeCasts_S2x1x2048x1x2_S2x2048x2))
        (broadcastInDim S2x2048x2 ![] bcast_S_S2x2048x2 (constant S_ .f32 0x7F800000#32)) := rfl

/-- The four smallest distances, negated. -/
abbrev four : FVec Ideal S2x2048x4 .f32 :=
  (Host.topK S2x2048x4 2 (FloatOps.cmpfTotal .gt) (Host.negf (table a1 a2 a3)) sliceFits_S2x2048x2048_S2x2048x4).1

/-- The condition on the third and the fourth distance, as its operations. -/
theorem gap_eq : (Pre_three_nearest.fn (F := Ideal) a0 a1 a2 a3).2.2.2
    = cmpf .ogt
      (shapeCast S2x2048 (extractStridedSlice S2x2048x1 ![0, 0, 2] (four a1 a2 a3) slices_S2x2048x4_S2x2048x1_0_0_2) shapeCasts_S2x2048x1_S2x2048)
      (shapeCast S2x2048 (extractStridedSlice S2x2048x1 ![0, 0, 3] (four a1 a2 a3) slices_S2x2048x4_S2x2048x1_0_0_3) shapeCasts_S2x2048x1_S2x2048) := rfl

/-- A truth value written as a bit that is set is true. -/
theorem bit_true {p : Prop} [Decidable p] (h : BitVec.ofBool (decide p) = 1#1) : p := by
  by_contra hp
  rw [decide_eq_false hp] at h
  exact absurd h (by decide)

/-- Where the mask's bit is set, the alternative to its being clear is true. -/
theorem bit_or {p : Prop} [Decidable p] {w : BitVec 1} (hw : w = 1#1)
    (h : IntOp.ori (~~~w) (BitVec.ofBool (decide p)) = 1#1) : p := by
  subst hw
  by_contra hp
  rw [decide_eq_false hp] at h
  exact absurd h (by decide)

/-- A value whose size is below infinity is a real number. -/
theorem real_of_abs {x : EReal} (h : FloatOps.absf (F := Ideal) (φ := .f32) x < Ideal.ofBits .f32 0x7F800000#32) :
    ∃ r : ℝ, x = (r : EReal) := by
  have h' : max x (-x) < ⊤ := ofBits_inf ▸ h
  induction x with
  | bot => simp at h'
  | coe r => exact ⟨r, rfl⟩
  | top => simp at h'

/-- The third nearest key is strictly nearer than the fourth. -/
theorem gap (h : (Pre_three_nearest.fn (F := Ideal) a0 a1 a2 a3).2.2.2 = fun _ => 1#1) (b : Fin 2) (q : Fin 2048) :
    table a1 a2 a3 (ix3 b q (nearest a1 a2 a3 b q 2)) < table a1 a2 a3 (ix3 b q (nearest a1 a2 a3 b q 3)) := by
  have e := congrFun ((gap_eq a0 a1 a2 a3).symm.trans h) (ix2 b q)
  have t := topK_value (Host.negf (table a1 a2 a3)) sliceFits_S2x2048x2048_S2x2048x4 (by decide) b q
  pointwise [four] at e
  have e' := bit_true e
  rw [t 2, t 3] at e'
  exact EReal.neg_lt_neg_iff.mp e'

/-- The features of a kept key are numbers. -/
theorem features (h : (Pre_three_nearest.fn (F := Ideal) a0 a1 a2 a3).1 = fun _ => 1#1) (b : Fin 2) (i : Fin 2048) (c : Fin 32)
    (k : a3 (ix4 b 0 i 0) = 1#1) : ∃ r : ℝ, a0 (ix5 b 0 i 0 c) = (r : EReal) := by
  have e := congrFun ((features_eq a0 a1 a2 a3).symm.trans h) (ix3 b i c)
  pointwise [] at e
  exact real_of_abs (bit_or k e)

/-- The coordinates of a kept key are numbers. -/
theorem keys (h : (Pre_three_nearest.fn (F := Ideal) a0 a1 a2 a3).2.1 = fun _ => 1#1) (b : Fin 2) (i : Fin 2048) (o : Fin 2)
    (k : a3 (ix4 b 0 i 0) = 1#1) : ∃ r : ℝ, a1 (ix5 b 0 i 0 o) = (r : EReal) := by
  have e := congrFun ((keys_eq a0 a1 a2 a3).symm.trans h) (ix3 b i o)
  pointwise [] at e
  exact real_of_abs (bit_or k e)

/-- The coordinates of a query are numbers. -/
theorem queries (h : (Pre_three_nearest.fn (F := Ideal) a0 a1 a2 a3).2.2.1 = fun _ => 1#1) (b : Fin 2) (q : Fin 2048) (o : Fin 2) :
    ∃ r : ℝ, a2 (ix5 b 0 q 0 o) = (r : EReal) := by
  have e := congrFun ((queries_eq a0 a1 a2 a3).symm.trans h) (ix3 b q o)
  pointwise [] at e
  exact real_of_abs (bit_true e)

end Cert.Pre

end
-- ==== Proof.Scores.lean ====
/- What the kernel's squared chords and the reference's distances say of each other. At the keys the mask keeps, both are
   increasing in the same haversine; at the others both are one constant, above all the rest. So the two put the keys in the
   same order, and under the precondition the three nearest keys are the same ones. -/
module

public import proofs.«01_k».proof.Proof.Pre

@[expose] public section

set_option maxRecDepth 16384

noncomputable section

namespace Cert.Scores

open Idealize.ShloMosaic Cert.Geometry Cert.Ref Cert.Nearest Cert.Consts

variable (a0 : FVec Ideal Cert.Pre_three_nearest.S2x1x2048x1x32 .f32) (a1 a2 : FVec Ideal Cert.Pre_three_nearest.S2x1x2048x1x2 .f32)
  (a3 : IVec Cert.Pre_three_nearest.S2x1x2048x1 1)

/-- The masked squared chord between query `q` and key `i` of batch `b`. -/
def score (b : Fin 2) (q i : Fin 2048) : EReal :=
  if a3 (ix4 b 0 i 0) = 1#1 then
    kerChord (a2 (ix5 b 0 q 0 0)) (a2 (ix5 b 0 q 0 1)) (a1 (ix5 b 0 i 0 0)) (a1 (ix5 b 0 i 0 1))
  else ((9 : ℝ) : EReal)

/-- The precondition at these arguments. -/
def Held : Prop :=
  (Cert.Pre_three_nearest.fn (F := Ideal) a0 a1 a2 a3).1 = (fun _ => 1#1)
    ∧ (Cert.Pre_three_nearest.fn (F := Ideal) a0 a1 a2 a3).2.1 = (fun _ => 1#1)
    ∧ (Cert.Pre_three_nearest.fn (F := Ideal) a0 a1 a2 a3).2.2.1 = (fun _ => 1#1)
    ∧ (Cert.Pre_three_nearest.fn (F := Ideal) a0 a1 a2 a3).2.2.2 = (fun _ => 1#1)

variable {a0 a1 a2 a3}

/-- At a kept key there is a haversine of which the score and the distance are the two readings. -/
theorem kept_key (hp : Held a0 a1 a2 a3) (b : Fin 2) (q i : Fin 2048) (k : a3 (ix4 b 0 i 0) = 1#1) :
    ∃ h : ℝ, 0 ≤ h ∧ h ≤ 1 ∧ score a1 a2 a3 b q i = ((4 * h : ℝ) : EReal) ∧ table a1 a2 a3 (ix3 b q i) = ((arc h : ℝ) : EReal) := by
  obtain ⟨p₁, e₁⟩ := Cert.Pre.queries a0 a1 a2 a3 hp.2.2.1 b q 0
  obtain ⟨l₁, e₂⟩ := Cert.Pre.queries a0 a1 a2 a3 hp.2.2.1 b q 1
  obtain ⟨p₂, e₃⟩ := Cert.Pre.keys a0 a1 a2 a3 hp.2.1 b i 0 k
  obtain ⟨l₂, e₄⟩ := Cert.Pre.keys a0 a1 a2 a3 hp.2.1 b i 1 k
  refine ⟨hav p₁ l₁ p₂ l₂, hav_nonneg _ _ _ _, hav_le_one _ _ _ _, ?_, ?_⟩
  · rw [score, if_pos k, e₁, e₂, e₃, e₄, kerChord_coe]
  · rw [table_apply, if_pos k, e₁, e₂, e₃, e₄, refHav_coe, havDist_coe (hav_nonneg _ _ _ _) (hav_le_one _ _ _ _)]

/-- At a key the mask drops, the score is nine and the distance a thousand million. -/
theorem dropped_key (b : Fin 2) (q i : Fin 2048) (k : a3 (ix4 b 0 i 0) ≠ 1#1) :
    score a1 a2 a3 b q i = ((9 : ℝ) : EReal) ∧ table a1 a2 a3 (ix3 b q i) = ((1000000000 : ℝ) : EReal) := by
  rw [score, if_neg k, table_apply, if_neg k]
  exact ⟨rfl, rfl⟩

/-- The distances order the keys as the scores do. -/
theorem score_lt (hp : Held a0 a1 a2 a3) (b : Fin 2) (q i j : Fin 2048) :
    score a1 a2 a3 b q i < score a1 a2 a3 b q j ↔ table a1 a2 a3 (ix3 b q i) < table a1 a2 a3 (ix3 b q j) := by
  by_cases ki : a3 (ix4 b 0 i 0) = 1#1 <;> by_cases kj : a3 (ix4 b 0 j 0) = 1#1
  · obtain ⟨h, h0, h1, s, d⟩ := kept_key hp b q i ki
    obtain ⟨h', h0', h1', s', d'⟩ := kept_key hp b q j kj
    rw [s, s', d, d', EReal.coe_lt_coe_iff, EReal.coe_lt_coe_iff]
    constructor
    · intro hh
      exact arc_lt_arc h0 h1' (by linarith)
    · intro hh
      by_contra hn
      rcases (not_lt.mp hn).lt_or_eq with hlt | heq
      · exact absurd hh (not_lt.mpr (arc_lt_arc h0' h1 (by linarith)).le)
      · rw [show h = h' by linarith] at hh
        exact lt_irrefl _ hh
  · obtain ⟨h, h0, h1, s, d⟩ := kept_key hp b q i ki
    obtain ⟨s', d'⟩ := dropped_key (a1 := a1) (a2 := a2) b q j kj
    rw [s, s', d, d', EReal.coe_lt_coe_iff, EReal.coe_lt_coe_iff]
    exact iff_of_true (by linarith) (arc_lt_big h)
  · obtain ⟨s, d⟩ := dropped_key (a1 := a1) (a2 := a2) b q i ki
    obtain ⟨h', h0', h1', s', d'⟩ := kept_key hp b q j kj
    rw [s, s', d, d', EReal.coe_lt_coe_iff, EReal.coe_lt_coe_iff]
    exact iff_of_false (by linarith) (not_lt.mpr (arc_lt_big h').le)
  · obtain ⟨s, d⟩ := dropped_key (a1 := a1) (a2 := a2) b q i ki
    obtain ⟨s', d'⟩ := dropped_key (a1 := a1) (a2 := a2) b q j kj
    rw [s, s', d, d']
    exact iff_of_false (lt_irrefl _) (lt_irrefl _)

/-- Every score is below the kernel's filler. -/
theorem score_lt_filler (hp : Held a0 a1 a2 a3) (b : Fin 2) (q i : Fin 2048) : score a1 a2 a3 b q i < ((25 : ℝ) : EReal) := by
  by_cases k : a3 (ix4 b 0 i 0) = 1#1
  · obtain ⟨h, h0, h1, s, -⟩ := kept_key hp b q i k
    rw [s, EReal.coe_lt_coe_iff]
    linarith
  · rw [(dropped_key b q i k).1, EReal.coe_lt_coe_iff]
    norm_num

/-- The order of the keys is a rearrangement of them. -/
theorem nearest_bijective (b : Fin 2) (q : Fin 2048) : Function.Bijective (nearest a1 a2 a3 b q) := order_bijective _

/-- The distances grow along the order of the keys. -/
theorem table_mono (b : Fin 2) (q : Fin 2048) (i j : Fin 2048) (h : i ≤ j) :
    table a1 a2 a3 (ix3 b q (nearest a1 a2 a3 b q i)) ≤ table a1 a2 a3 (ix3 b q (nearest a1 a2 a3 b q j)) :=
  EReal.neg_le_neg_iff.mp (order_antitone (fun i => -table a1 a2 a3 (ix3 b q i)) h)

/-- The scores grow along it too. -/
theorem score_mono (hp : Held a0 a1 a2 a3) (b : Fin 2) (q : Fin 2048) (i j : Fin 2048) (h : i ≤ j) :
    score a1 a2 a3 b q (nearest a1 a2 a3 b q i) ≤ score a1 a2 a3 b q (nearest a1 a2 a3 b q j) :=
  not_lt.mp fun hh => absurd ((score_lt hp b q _ _).mp hh) (not_lt.mpr (table_mono b q i j h))

/-- The fourth score is greater than the third. -/
theorem score_gap (hp : Held a0 a1 a2 a3) (b : Fin 2) (q : Fin 2048) :
    score a1 a2 a3 b q (nearest a1 a2 a3 b q 2) < score a1 a2 a3 b q (nearest a1 a2 a3 b q 3) :=
  (score_lt hp b q _ _).mpr (Cert.Pre.gap a0 a1 a2 a3 hp.2.2.2 b q)

/-- No distance is above the constant of the dropped keys. -/
theorem table_le (hp : Held a0 a1 a2 a3) (b : Fin 2) (q i : Fin 2048) :
    table a1 a2 a3 (ix3 b q i) ≤ ((1000000000 : ℝ) : EReal) := by
  by_cases k : a3 (ix4 b 0 i 0) = 1#1
  · obtain ⟨h, -, -, -, d⟩ := kept_key hp b q i k
    rw [d, EReal.coe_le_coe_iff]
    exact (arc_lt_big h).le
  · exact (dropped_key b q i k).2.le

/-- The three nearest keys are keys the mask keeps. -/
theorem nearest_kept (hp : Held a0 a1 a2 a3) (b : Fin 2) (q : Fin 2048) (k : Fin 2048) (hk : k ≤ 2) :
    a3 (ix4 b 0 (nearest a1 a2 a3 b q k) 0) = 1#1 := by
  by_contra hn
  have h1 := table_mono (a1 := a1) (a2 := a2) (a3 := a3) b q k 2 hk
  have h2 := Cert.Pre.gap a0 a1 a2 a3 hp.2.2.2 b q
  rw [(dropped_key b q _ hn).2] at h1
  exact absurd (h1.trans_lt h2) (not_lt.mpr (table_le hp b q _))

/-- At one of the three nearest keys the kernel's distance of the score is the reference's distance. -/
theorem dist_nearest (hp : Held a0 a1 a2 a3) (b : Fin 2) (q : Fin 2048) (k : Fin 2048) (hk : k ≤ 2) :
    chordDist (score a1 a2 a3 b q (nearest a1 a2 a3 b q k)) = table a1 a2 a3 (ix3 b q (nearest a1 a2 a3 b q k)) := by
  obtain ⟨h, h0, h1, s, d⟩ := kept_key hp b q _ (nearest_kept hp b q k hk)
  rw [s, d, chordDist_coe h0 h1]

end Cert.Scores

end
-- ==== Proof.Equation.lean ====
/- The equation. If the blocks of a grid point hold one query's share of the arguments, the two entries the kernel writes
   for that query are the two entries of the reference. -/
module

public import proofs.«01_k».proof.Proof.Block
public import proofs.«01_k».proof.Proof.Scores

@[expose] public section

set_option maxRecDepth 16384

noncomputable section

namespace Cert.Equation

open Idealize.ShloMosaic Cert.KernelIdeal Cert.KernelIdeal.Gen Cert.Geometry Cert.Block Cert.Select Cert.Scores Cert.Ref Cert.Nearest Cert.Consts

variable (a0 : FVec Ideal Cert.Pre_three_nearest.S2x1x2048x1x32 .f32) (a1 a2 : FVec Ideal Cert.Pre_three_nearest.S2x1x2048x1x2 .f32)
  (a3 : IVec Cert.Pre_three_nearest.S2x1x2048x1 1)

/-- The weighted mean the reference gives at a query and a channel. -/
def mean (b : Fin 2) (q : Fin 2048) (e : Fin 32) : EReal :=
  ∑ k : Fin 3, Ideal.div (inv a1 a2 a3 (ix3 b q k)) (∑ k : Fin 3, inv a1 a2 a3 (ix3 b q k))
    * a0 (ix5 b 0 (nearest a1 a2 a3 b q (k.castLE (by decide))) 0 e)

/-- The distance score the reference gives at a query. -/
def spread (b : Fin 2) (q : Fin 2048) : EReal :=
  1 - Ideal.div (∑ k : Fin 3,
    Ideal.exp (-table a1 a2 a3 (ix3 b q (nearest a1 a2 a3 b q (k.castLE (by decide)))))) (Ideal.ofBits .f32 0x40400000#32)

variable {a0 a1 a2 a3}
variable (x0 x1 x2 : Vec Ideal S1x2048x1 .f32) (x3 x4 x5 : Vec Ideal S1x1x1x1024 .f32) (x6 : Vec Ideal S1x2048x32 .f32)
  (x7 : Vec Ideal S1x2048x1 .f32)

/-- The three kept rows hold the scores of the three nearest keys. -/
theorem rows_eq (hp : Held a0 a1 a2 a3) (b : Fin 2) (q : Fin 2048) (l : Fin 1024)
    (hS : ∀ i, blockS x0 x1 x2 x3 x4 x5 x7 i l = score a1 a2 a3 b q i) :
    row1 x0 x1 x2 x3 x4 x5 x6 x7 (ix2 0 l) = score a1 a2 a3 b q (nearest a1 a2 a3 b q 0)
      ∧ row2 x0 x1 x2 x3 x4 x5 x6 x7 (ix2 0 l) = score a1 a2 a3 b q (nearest a1 a2 a3 b q 1)
      ∧ row3 x0 x1 x2 x3 x4 x5 x6 x7 (ix2 0 l) = score a1 a2 a3 b q (nearest a1 a2 a3 b q 2) := by
  refine three_minima (S := score a1 a2 a3 b q) (nearest_bijective b q) (score_mono hp b q) (score_lt_filler hp b q) fun x hx => ?_
  have h := kept_block x0 x1 x2 x3 x4 x5 x6 x7 l x hx
  simp only [hS] at h
  exact h

/-- The kernel's second entry is the reference's. -/
theorem spread_eq (hp : Held a0 a1 a2 a3) (b : Fin 2) (q : Fin 2048) (l : Fin 1024)
    (hS : ∀ i, blockS x0 x1 x2 x3 x4 x5 x7 i l = score a1 a2 a3 b q i) :
    out0_9 x0 x1 x2 x3 x4 x5 x6 x7 (ix4 0 0 0 l) = spread a1 a2 a3 b q := by
  obtain ⟨h1, h2, h3⟩ := rows_eq x0 x1 x2 x3 x4 x5 x6 x7 hp b q l hS
  rw [out9_apply, h1, h2, h3, dist_nearest hp b q 0 (by decide), dist_nearest hp b q 1 (by decide),
    dist_nearest hp b q 2 (by decide), spread, ofBits_3, Ideal.div_coe three_ne_zero, Fin.sum_univ_three]
  simp only [zero_sub]
  rfl

/-- One of the kernel's inverse distances is one of the reference's. -/
theorem pull_eq (hp : Held a0 a1 a2 a3) (b : Fin 2) (q : Fin 2048) (k : Fin 3) (hk : (k.castLE (by decide) : Fin 2048) ≤ 2) :
    pull (score a1 a2 a3 b q (nearest a1 a2 a3 b q (k.castLE (by decide)))) = inv a1 a2 a3 (ix3 b q k) := by
  rw [pull, dist_nearest hp b q _ hk, inv_apply]

/-- The kernel's first entry is the reference's. -/
theorem mean_eq (hp : Held a0 a1 a2 a3) (b : Fin 2) (q : Fin 2048) (l : Fin 1024) (e : Fin 32)
    (hS : ∀ i, blockS x0 x1 x2 x3 x4 x5 x7 i l = score a1 a2 a3 b q i)
    (hF : ∀ i, x6 (ix3 0 i e) = a0 (ix5 b 0 i 0 e)) :
    out0_8 x0 x1 x2 x3 x4 x5 x6 x7 (ix3 0 e l) = mean a0 a1 a2 a3 b q e := by
  obtain ⟨h1, h2, h3⟩ := rows_eq x0 x1 x2 x3 x4 x5 x6 x7 hp b q l hS
  have p0 := pull_eq hp b q 0 (by decide)
  have p1 := pull_eq hp b q 1 (by decide)
  have p2 := pull_eq hp b q 2 (by decide)
  have z : ∀ k : Fin 2048, k ≤ 2 → a0 (ix5 b 0 (nearest a1 a2 a3 b q k) 0 e) - a0 (ix5 b 0 (nearest a1 a2 a3 b q k) 0 e) = (0 : EReal) := by
    intro k hk
    obtain ⟨r, hr⟩ := Cert.Pre.features a0 a1 a2 a3 hp.1 b _ e (nearest_kept hp b q k hk)
    rw [hr, ← EReal.coe_sub, sub_self]
    rfl
  have key := fun F : Fin 2048 → EReal => sum_three (S := score a1 a2 a3 b q) (nearest_bijective b q) (score_mono hp b q)
    (score_gap hp b q) F fun s => Ideal.div (pull s) (pull (score a1 a2 a3 b q (nearest a1 a2 a3 b q 0))
      + pull (score a1 a2 a3 b q (nearest a1 a2 a3 b q 1)) + pull (score a1 a2 a3 b q (nearest a1 a2 a3 b q 2)))
  rw [out8_apply, h1, h2, h3]
  simp only [hS, hF]
  unfold weight
  refine (congrArg₂ (· + ·) (key fun i => a0 (ix5 b 0 i 0 e)) (key fun i => a0 (ix5 b 0 i 0 e) - a0 (ix5 b 0 i 0 e))).trans ?_
  rw [z 0 (by decide), z 1 (by decide), z 2 (by decide), zero_mul, zero_mul, zero_mul, add_zero, add_zero, add_zero,
    mean, Fin.sum_univ_three, Fin.sum_univ_three, ← p0, ← p1, ← p2, mul_comm, mul_comm (a0 (ix5 b 0 (nearest a1 a2 a3 b q 1) 0 e)),
    mul_comm (a0 (ix5 b 0 (nearest a1 a2 a3 b q 2) 0 e))]
  rfl

end Cert.Equation

end
-- ==== Proof.Arrays.lean ====
/- What the arrays hold. First the operands: what a grid point's blocks are of the arrays the host prepares, and what those
   are of the arguments. Then the outputs: the entries that the grid points write, put together. -/
module

public import proofs.«01_k».proof.Proof.Equation
public import Idealize.ShloMosaic.Lib.Pipeline.ValueKit.Point
public import Idealize.ShloMosaic.Lib.StableHlo.ReadAt
public import Idealize.ShloMosaic.Lib.Pointwise

@[expose] public section

set_option maxRecDepth 16384

noncomputable section

namespace Cert.Arrays

open Idealize.ShloMosaic Idealize.ShloMosaic.TcCoe Cert.KernelIdeal Cert.KernelIdeal.Gen Cert.Geometry Cert.Block Cert.Scores Cert.Equation

variable (m : (ℓ : Loc nD τ sig) → Buf (Elt Ideal) ℓ) (c : Dev nD)

/-- The batch of a grid point. -/
def batch (t : Fin cfg0.N) : Fin 2 := grid0.coords t 0
/-- The query block of a grid point. -/
def part (t : Fin cfg0.N) : Fin 2 := grid0.coords t 1

/-- Every key operand is staged whole for the batch of the grid point. -/
theorem idx_keys : ∀ t : Fin cfg0.N, win0_0.index t = ![(batch t).val, 0, 0] ∧ win0_1.index t = ![(batch t).val, 0, 0]
    ∧ win0_2.index t = ![(batch t).val, 0, 0] ∧ win0_6.index t = ![(batch t).val, 0, 0] ∧ win0_7.index t = ![(batch t).val, 0, 0] := by
  decide +kernel

/-- The query operands and the second output are staged by batch and query block. -/
theorem idx_queries : ∀ t : Fin cfg0.N, win0_3.index t = ![(batch t).val, (part t).val, 0, 0]
    ∧ win0_4.index t = ![(batch t).val, (part t).val, 0, 0] ∧ win0_5.index t = ![(batch t).val, (part t).val, 0, 0]
    ∧ win0_9.index t = ![(batch t).val, (part t).val, 0, 0] := by
  decide +kernel

/-- The first output is staged by batch and query block, the channels whole. -/
theorem idx_out : ∀ t : Fin cfg0.N, win0_8.index t = ![(batch t).val, 0, (part t).val] := by
  decide +kernel

/-- The query a lane of a query block stands for. -/
def lane (j : Fin 2) (l : Fin 1024) : Fin 2048 := ⟨j.val * 1024 + l.val, by omega⟩

/-- The first coordinates of the keys, as the grid point sees them. -/
theorem key_x (t : Fin cfg0.N) (i : Fin 2048) :
    iblk m c 0 t (ix3 0 i 0) = V m c main_v10 (ix3 (batch t) i 0) := by
  blk_ext [iblk, idx_keys t]

/-- The second coordinates of the keys, as the grid point sees them. -/
theorem key_y (t : Fin cfg0.N) (i : Fin 2048) :
    iblk m c 1 t (ix3 0 i 0) = V m c main_v13 (ix3 (batch t) i 0) := by
  blk_ext [iblk, idx_keys t]

/-- The third coordinates of the keys, as the grid point sees them. -/
theorem key_z (t : Fin cfg0.N) (i : Fin 2048) :
    iblk m c 2 t (ix3 0 i 0) = V m c main_v15 (ix3 (batch t) i 0) := by
  blk_ext [iblk, idx_keys t]

/-- The first coordinates of the queries, as the grid point sees them. -/
theorem query_x (t : Fin cfg0.N) (q : Fin 1024) :
    iblk m c 3 t (ix4 0 0 0 q) = V m c main_v23 (ix4 (batch t) (part t) 0 q) := by
  blk_ext [iblk, idx_queries t]

/-- The second coordinates of the queries, as the grid point sees them. -/
theorem query_y (t : Fin cfg0.N) (q : Fin 1024) :
    iblk m c 4 t (ix4 0 0 0 q) = V m c main_v26 (ix4 (batch t) (part t) 0 q) := by
  blk_ext [iblk, idx_queries t]

/-- The third coordinates of the queries, as the grid point sees them. -/
theorem query_z (t : Fin cfg0.N) (q : Fin 1024) :
    iblk m c 5 t (ix4 0 0 0 q) = V m c main_v28 (ix4 (batch t) (part t) 0 q) := by
  blk_ext [iblk, idx_queries t]

/-- The features of the keys, as the grid point sees them. -/
theorem feature (t : Fin cfg0.N) (i : Fin 2048) (e : Fin 32) :
    iblk m c 6 t (ix3 0 i e) = V m c main_v0 (ix3 (batch t) i e) := by
  blk_ext [iblk, idx_keys t]

/-- The mask of the keys, as the grid point sees it. -/
theorem mask (t : Fin cfg0.N) (i : Fin 2048) :
    iblk m c 7 t (ix3 0 i 0) = V m c main_v30 (ix3 (batch t) i 0) := by
  blk_ext [iblk, idx_keys t]

/-- The host gives a key's first coordinate as cosine of latitude times cosine of longitude. -/
theorem V_key_x (b : Fin 2) (i : Fin 2048) :
    V m c main_v10 (ix3 b i 0) =
      Ideal.cos (m ((c : Thread nD τ).loc main_arg1) (ix5 b 0 i 0 0)) * Ideal.cos (m ((c : Thread nD τ).loc main_arg1) (ix5 b 0 i 0 1)) := by
  unfold V V0
  simp only [List.flatten_cons, List.flatten_nil, List.append_nil]
  after_reads_at

/-- The host gives a key's second coordinate as cosine of latitude times sine of longitude. -/
theorem V_key_y (b : Fin 2) (i : Fin 2048) :
    V m c main_v13 (ix3 b i 0) =
      Ideal.cos (m ((c : Thread nD τ).loc main_arg1) (ix5 b 0 i 0 0)) * Ideal.sin (m ((c : Thread nD τ).loc main_arg1) (ix5 b 0 i 0 1)) := by
  unfold V V0
  simp only [List.flatten_cons, List.flatten_nil, List.append_nil]
  after_reads_at

/-- The host gives a key's third coordinate as the sine of its latitude. -/
theorem V_key_z (b : Fin 2) (i : Fin 2048) :
    V m c main_v15 (ix3 b i 0) = Ideal.sin (m ((c : Thread nD τ).loc main_arg1) (ix5 b 0 i 0 0)) := by
  unfold V V0
  simp only [List.flatten_cons, List.flatten_nil, List.append_nil]
  after_reads_at

/-- The host gives a query's first coordinate as cosine of latitude times cosine of longitude. -/
theorem V_query_x (b j : Fin 2) (l : Fin 1024) :
    V m c main_v23 (ix4 b j 0 l) =
      Ideal.cos (m ((c : Thread nD τ).loc main_arg2) (ix5 b 0 (lane j l) 0 0)) * Ideal.cos (m ((c : Thread nD τ).loc main_arg2) (ix5 b 0 (lane j l) 0 1)) := by
  unfold lane V V0
  simp only [List.flatten_cons, List.flatten_nil, List.append_nil]
  after_reads_at

/-- The host gives a query's second coordinate as cosine of latitude times sine of longitude. -/
theorem V_query_y (b j : Fin 2) (l : Fin 1024) :
    V m c main_v26 (ix4 b j 0 l) =
      Ideal.cos (m ((c : Thread nD τ).loc main_arg2) (ix5 b 0 (lane j l) 0 0)) * Ideal.sin (m ((c : Thread nD τ).loc main_arg2) (ix5 b 0 (lane j l) 0 1)) := by
  unfold lane V V0
  simp only [List.flatten_cons, List.flatten_nil, List.append_nil]
  after_reads_at

/-- The host gives a query's third coordinate as the sine of its latitude. -/
theorem V_query_z (b j : Fin 2) (l : Fin 1024) :
    V m c main_v28 (ix4 b j 0 l) = Ideal.sin (m ((c : Thread nD τ).loc main_arg2) (ix5 b 0 (lane j l) 0 0)) := by
  unfold lane V V0
  simp only [List.flatten_cons, List.flatten_nil, List.append_nil]
  after_reads_at

/-- The host hands the features over as they are, its two unit axes dropped. -/
theorem V_feature (b : Fin 2) (i : Fin 2048) (e : Fin 32) :
    V m c main_v0 (ix3 b i e) = m ((c : Thread nD τ).loc main_arg0) (ix5 b 0 i 0 e) := by
  unfold V V0
  simp only [List.flatten_cons, List.flatten_nil, List.append_nil]
  after_reads_at

/-- The host hands the mask over as numbers. -/
theorem V_mask (b : Fin 2) (i : Fin 2048) :
    V m c main_v30 (ix3 b i 0) = FloatOps.uitofp (F := Ideal) FTy.f32 (m ((c : Thread nD τ).loc main_arg3) (ix4 b 0 i 0)) := by
  unfold V V0
  simp only [List.flatten_cons, List.flatten_nil, List.append_nil]
  after_reads_at

/-- A one-bit word counts as above zero exactly when it is set. -/
theorem bit_pos : ∀ w : BitVec 1, ((0 : EReal) < FloatOps.uitofp (F := Ideal) FTy.f32 w) = (w = 1#1) := by
  intro w
  show ((0 : EReal) < ((w.toNat : ℝ) : EReal)) = (w = 1#1)
  rcases (by decide +revert : w = 0#1 ∨ w = 1#1) with rfl | rfl <;> simp

/-- What the host hands the kernel, as one query's share of the arguments: the scores. -/
theorem block_score (t : Fin cfg0.N) (i : Fin 2048) (l : Fin 1024) :
    blockS (iblk m c 0 t) (iblk m c 1 t) (iblk m c 2 t) (iblk m c 3 t) (iblk m c 4 t) (iblk m c 5 t) (iblk m c 7 t) i l
      = score (m ((c : Thread nD τ).loc main_arg1)) (m ((c : Thread nD τ).loc main_arg2)) (m ((c : Thread nD τ).loc main_arg3))
          (batch t) (lane (part t) l) i := by
  unfold blockS score kerChord
  rw [key_x, key_y, key_z, query_x, query_y, query_z, mask, V_key_x, V_key_y, V_key_z, V_query_x, V_query_y, V_query_z, V_mask]
  exact if_congr (iff_of_eq (bit_pos _)) rfl rfl

/-- The kernel's first output array. -/
def meanArr : Vec Ideal S2x32x2048 .f32 := fun y =>
  mean (m ((c : Thread nD τ).loc main_arg0)) (m ((c : Thread nD τ).loc main_arg1)) (m ((c : Thread nD τ).loc main_arg2))
    (m ((c : Thread nD τ).loc main_arg3)) (y 0) (y 2) (y 1)

/-- The kernel's second output array. -/
def spreadArr : Vec Ideal S2x2x1x1024 .f32 := fun y =>
  spread (m ((c : Thread nD τ).loc main_arg1)) (m ((c : Thread nD τ).loc main_arg2))
    (m ((c : Thread nD τ).loc main_arg3)) (y 0) (lane (y 1) (y 3))

/-- The precondition on a memory. -/
def HeldAt : Prop := Held (m ((c : Thread nD τ).loc main_arg0)) (m ((c : Thread nD τ).loc main_arg1)) (m ((c : Thread nD τ).loc main_arg2))
    (m ((c : Thread nD τ).loc main_arg3))

variable {m c}

/-- Where a lane of a block of the second output lands. -/
theorem emb9 (t : Fin cfg0.N) (l : Fin 1024) (X : Vec Ideal S2x2x1x1024 .f32) :
    X ((win0_9.blk t).view.emb (ix4 0 0 0 l)) = X (ix4 (batch t) (part t) 0 l) := by
  blk_ext [idx_queries t]

/-- Where a channel and a lane of a block of the first output land. -/
theorem emb8 (t : Fin cfg0.N) (e : Fin 32) (l : Fin 1024) (X : Vec Ideal S2x32x2048 .f32) :
    X ((win0_8.blk t).view.emb (ix3 0 e l)) = X (ix3 (batch t) e (lane (part t) l)) := by
  blk_ext [idx_out t, lane]

/-- The second output of a grid point, at a lane. -/
theorem point9 (hp : HeldAt m c) (t : Fin cfg0.N) (l : Fin 1024) :
    out0_9 (iblk m c 0 t) (iblk m c 1 t) (iblk m c 2 t) (iblk m c 3 t) (iblk m c 4 t) (iblk m c 5 t) (iblk m c 6 t)
      (iblk m c 7 t) (ix4 0 0 0 l) = spreadArr m c (ix4 (batch t) (part t) 0 l) :=
  spread_eq _ _ _ _ _ _ _ _ hp (batch t) (lane (part t) l) l fun i => block_score m c t i l

/-- The first output of a grid point, at a channel and a lane. -/
theorem point8 (hp : HeldAt m c) (t : Fin cfg0.N) (e : Fin 32) (l : Fin 1024) :
    out0_8 (iblk m c 0 t) (iblk m c 1 t) (iblk m c 2 t) (iblk m c 3 t) (iblk m c 4 t) (iblk m c 5 t) (iblk m c 6 t)
      (iblk m c 7 t) (ix3 0 e l) = meanArr m c (ix3 (batch t) e (lane (part t) l)) :=
  mean_eq _ _ _ _ _ _ _ _ hp (batch t) (lane (part t) l) l e (fun i => block_score m c t i l)
    fun i => (feature m c t i e).trans (V_feature m c _ i e)

/-- After the grid, the second output array holds the distance scores. -/
theorem arr9 (hp : HeldAt m c) : (dats m 0 c).arrAt 9 cfg0.N = spreadArr m c := by
  refine (dats m 0 c).arrAt_eq_of_covers 9 (spreadArr m c) (by decide +kernel) fun t hf y => ?_
  blk_simp
  rw [after0_9]
  idx_vars y
  obtain rfl := Subsingleton.elim y0 0
  obtain rfl := Subsingleton.elim y1 0
  obtain rfl := Subsingleton.elim y2 0
  exact (point9 hp t y3).trans (emb9 t y3 _).symm

/-- After the grid, the first output array holds the weighted means, channels before queries. -/
theorem arr8 (hp : HeldAt m c) : (dats m 0 c).arrAt 8 cfg0.N = meanArr m c := by
  refine (dats m 0 c).arrAt_eq_of_covers 8 (meanArr m c) (by decide +kernel) fun t hf y => ?_
  blk_simp
  rw [after0_8]
  idx_vars y
  obtain rfl := Subsingleton.elim y0 0
  exact (point8 hp t y1 y2).trans (emb8 t y1 y2 _).symm

end Cert.Arrays

end
-- ==== Proof.Results.lean ====
/- The two results of the whole program, after the host's last operations, and the runs that end with them. -/
module

public import proofs.«01_k».proof.Proof.Arrays
public import proofs.«01_k».proof.Proof.Gen.ReferenceIdeal.Run
public import proofs.«01_k».proof.Defs
public import Idealize.ShloMosaic.Lib.Claim

@[expose] public section

set_option maxRecDepth 16384

noncomputable section

namespace Cert.Results

open Idealize.ShloMosaic Idealize.ShloMosaic.TcCoe Cert.KernelIdeal Cert.KernelIdeal.Gen Cert.Arrays Cert.Equation

/-- Every query is a lane of a query block. -/
theorem lane_surjective (q : Fin 2048) : ∃ (j : Fin 2) (l : Fin 1024), q = lane j l :=
  ⟨⟨q.val / 1024, by omega⟩, ⟨q.val % 1024, by omega⟩, Fin.ext (by simp only [lane]; omega)⟩

variable {m : (ℓ : Loc nD τ sig) → Buf (Elt Ideal) ℓ} {c : Dev nD}

/-- The program's first result, read off the kernel's first output array. -/
theorem tail_mean (hp : HeldAt m c) (b : Fin 2) (z : Fin 1) (q : Fin 2048) (e : Fin 32) :
    Pipeline.afterTail₀ cfgs (dats m) 0 (V0 m) [hostOps1] c main_v33 (ix4 b z q e) = meanArr m c (ix3 b e q) := by
  rw [← arr8 hp]
  unfold Pipeline.afterTail₀
  simp only [List.flatten_cons, List.flatten_nil, List.append_nil]
  after_reads_at
  exact congrFun (Pipeline.withArrays_arr spec0 launch0.win.arr_inj c _ _ 8) _

/-- The program's second result, read off the kernel's second output array. -/
theorem tail_spread (hp : HeldAt m c) (b : Fin 2) (z : Fin 1) (j : Fin 2) (l : Fin 1024) :
    Pipeline.afterTail₀ cfgs (dats m) 0 (V0 m) [hostOps1] c main_v34 (ix3 b z (lane j l)) = spreadArr m c (ix4 b j 0 l) := by
  rw [← arr9 hp]
  unfold Pipeline.afterTail₀ lane
  simp only [List.flatten_cons, List.flatten_nil, List.append_nil]
  after_reads_at
  exact congrFun (Pipeline.withArrays_arr spec0 launch0.win.arr_inj c _ _ 9) _

/-- The program's first result is the reference's. -/
theorem result_mean (hp : HeldAt m c) (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Pipeline.afterTail₀ cfgs (dats m) 0 (V0 m) [hostOps1] c main_v33 = Cert.ReferenceIdeal.Value.res_main_v70 m' c := by
  funext y
  idx_vars y
  refine (tail_mean hp y0 y1 y2 y3).trans ((Cert.Ref.interp_apply m' c y0 y1 y2 y3).trans ?_).symm
  rw [h0, h1, h2, h3]
  rfl

/-- The program's second result is the reference's. -/
theorem result_spread (hp : HeldAt m c) (m' : (ℓ : Loc Cert.ReferenceIdeal.nD Cert.ReferenceIdeal.τ Cert.ReferenceIdeal.sig) → Buf (Elt Ideal) ℓ)
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Pipeline.afterTail₀ cfgs (dats m) 0 (V0 m) [hostOps1] c main_v34 = Cert.ReferenceIdeal.Value.res_main_v73 m' c := by
  funext y
  idx_vars y
  obtain ⟨j, l, rfl⟩ := lane_surjective y2
  refine (tail_spread hp y0 y1 j l).trans ((Cert.Ref.density_apply m' c y0 y1 (lane j l)).trans ?_).symm
  rw [h1, h2, h3]
  rfl

/-- The kernel's whole run against the reference's: the same two results, the arguments unchanged. -/
theorem algebraic : Cert.algebraic_KernelIdeal_ReferenceIdeal_pre_three_nearest
    (hKernelIdeal := Cert.KernelIdeal.Gen.facts) (hReferenceIdeal := Cert.ReferenceIdeal.Gen.facts)
    (hPre_three_nearest := Cert.Pre_three_nearest.Gen.facts) := by
  intro m g m' g' hpre hagree
  refine ⟨Cert.ReferenceIdeal.Value.res_main_v70 m', Cert.ReferenceIdeal.Value.res_main_v73 m', ?_, ?_⟩
  · run_from Cert.KernelIdeal.Gen.run_main m g
    · exact result_mean (hpre c) m' (hagree c).1 (hagree c).2.1 (hagree c).2.2.1 (hagree c).2.2.2
    · exact result_spread (hpre c) m' (hagree c).2.1 (hagree c).2.2.1 (hagree c).2.2.2
    · exact W_main_arg0 m (dats m) c
    · exact W_main_arg1 m (dats m) c
    · exact W_main_arg2 m (dats m) c
    · exact W_main_arg3 m (dats m) c
  · run_from Cert.ReferenceIdeal.Value.run m' g'

end Cert.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_three_nearest
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run ends, keeps its arguments and leaves every semaphore at zero. -/
theorem reference_quiet : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The named constant stands for the literal it replaces. -/
theorem third_preserved : Cert.preserves_Kernel_KernelIdeal :=
  IdealRules.named_const.statement Cert.KernelIdeal.κ "third" .f32 0x3EAAAAAB#32 ((1 / 3 : ℝ) : EReal) rfl

/-- Everything this certificate claims. -/
theorem claim : Cert.Claim := ⟨Cert.Kernel.Gen.facts, Cert.KernelIdeal.Gen.facts, Cert.ReferenceIdeal.Gen.facts,
  Cert.Pre_three_nearest.Gen.facts,
  fun m ρ _ => Cert.Kernel.Gen.frame m ρ,
  fun m ρ _ => Cert.KernelIdeal.Gen.frame m ρ,
  fun m ρ _ => Cert.KernelIdeal.Gen.frame m ρ,
  reference_quiet,
  fun m ρ _ => reference_quiet m ρ trivial,
  third_preserved,
  Cert.Results.algebraic⟩

end Cert.Proof

end
